-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![65536, 1024]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 1024]⟩ ⟨2, ![65536, 1024]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S4096x256 : Shape := ⟨2, ![4096, 256]⟩
abbrev S_ : Shape := ⟨0, ![]⟩
abbrev S4 : Shape := ⟨1, ![4]⟩
abbrev S4096x1 : Shape := ⟨2, ![4096, 1]⟩
abbrev S4095x256 : Shape := ⟨2, ![4095, 256]⟩
abbrev S1x256 : Shape := ⟨2, ![1, 256]⟩
abbrev S4094x256 : Shape := ⟨2, ![4094, 256]⟩
abbrev S2x256 : Shape := ⟨2, ![2, 256]⟩
abbrev S4092x256 : Shape := ⟨2, ![4092, 256]⟩
abbrev S4x256 : Shape := ⟨2, ![4, 256]⟩
abbrev S256x16x256 : Shape := ⟨3, ![256, 16, 256]⟩
abbrev S256x8x256 : Shape := ⟨3, ![256, 8, 256]⟩
abbrev S256x1x1 : Shape := ⟨3, ![256, 1, 1]⟩
abbrev S128x32x256 : Shape := ⟨3, ![128, 32, 256]⟩
abbrev S128x16x256 : Shape := ⟨3, ![128, 16, 256]⟩
abbrev S128x1x1 : Shape := ⟨3, ![128, 1, 1]⟩
abbrev S64x64x256 : Shape := ⟨3, ![64, 64, 256]⟩
abbrev S64x32x256 : Shape := ⟨3, ![64, 32, 256]⟩
abbrev S64x1x1 : Shape := ⟨3, ![64, 1, 1]⟩
abbrev S32x128x256 : Shape := ⟨3, ![32, 128, 256]⟩
abbrev S32x64x256 : Shape := ⟨3, ![32, 64, 256]⟩
abbrev S32x1x1 : Shape := ⟨3, ![32, 1, 1]⟩
abbrev S16x256x256 : Shape := ⟨3, ![16, 256, 256]⟩
abbrev S16x128x256 : Shape := ⟨3, ![16, 128, 256]⟩
abbrev S16x1x1 : Shape := ⟨3, ![16, 1, 1]⟩
abbrev S8x512x256 : Shape := ⟨3, ![8, 512, 256]⟩
abbrev S8x256x256 : Shape := ⟨3, ![8, 256, 256]⟩
abbrev S8x1x1 : Shape := ⟨3, ![8, 1, 1]⟩
abbrev S4x1024x256 : Shape := ⟨3, ![4, 1024, 256]⟩
abbrev S4x512x256 : Shape := ⟨3, ![4, 512, 256]⟩
abbrev S4x1x1 : Shape := ⟨3, ![4, 1, 1]⟩
abbrev S2x2048x256 : Shape := ⟨3, ![2, 2048, 256]⟩
abbrev S2x1024x256 : Shape := ⟨3, ![2, 1024, 256]⟩
abbrev S2x1x1 : Shape := ⟨3, ![2, 1, 1]⟩
abbrev S1x4096x256 : Shape := ⟨3, ![1, 4096, 256]⟩
abbrev S1x2048x256 : Shape := ⟨3, ![1, 2048, 256]⟩
abbrev S1x1x1 : Shape := ⟨3, ![1, 1, 1]⟩
abbrev S1 : Shape := ⟨1, ![1]⟩

abbrev nBuf : Space → Nat
  | .hbm => 2
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .local _ .vmem, ⟨0, _⟩ => ⟨S4096x256, .f32⟩
  | .local _ .vmem, ⟨1, _⟩ => ⟨S4096x256, .f32⟩
  | .local _ .vmem, ⟨2, _⟩ => ⟨S4096x256, .f32⟩
  | .local _ .vmem, ⟨3, _⟩ => ⟨S4096x256, .f32⟩
  | .local _ .vmem, ⟨4, _⟩ => ⟨S4096x256, .bf16⟩
  | .local _ .vmem, ⟨5, _⟩ => ⟨S4096x256, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  (ofTc nBuf bufTy 5 6 bufScoped semScoped dmaSemScoped tileCredit tileCredit_eq_zero tileCredit_pos).withBarriers [(0, 4)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev barrier0 : Sem sig := 4

abbrev nD : Nat := 16
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v4 : BitVec 1 := Scalar.cmpi .eq arg0 c0_i32
  let v5 : BitVec 32 := Scalar.extui v4
  let c0_i32_0 : BitVec 32 := 0#32
  let v6 : BitVec 1 := Scalar.cmpi .ne v5 c0_i32_0
  v6

def k0_dev1 (d0 : Dev nD) : Nat :=
  let c0_i32_619 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_616 : BitVec 32 := 1#32
  let v3210 : BitVec 32 := Scalar.xori v2 c1_i32_616
  let c1_i32_618 : BitVec 32 := 1#32
  let v3211 : BitVec 32 := Scalar.muli v3210 c1_i32_618
  let v3212 : BitVec 32 := Scalar.addi c0_i32_619 v3211
  v3212.toNat
def k0_dev2 (d0 : Dev nD) : Nat :=
  let c0_i32_623 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_620 : BitVec 32 := 2#32
  let v3213 : BitVec 32 := Scalar.xori v2 c2_i32_620
  let c1_i32_622 : BitVec 32 := 1#32
  let v3214 : BitVec 32 := Scalar.muli v3213 c1_i32_622
  let v3215 : BitVec 32 := Scalar.addi c0_i32_623 v3214
  v3215.toNat
def k0_dev3 (d0 : Dev nD) : Nat :=
  let c0_i32_627 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_624 : BitVec 32 := 4#32
  let v3216 : BitVec 32 := Scalar.xori v2 c4_i32_624
  let c1_i32_626 : BitVec 32 := 1#32
  let v3217 : BitVec 32 := Scalar.muli v3216 c1_i32_626
  let v3218 : BitVec 32 := Scalar.addi c0_i32_627 v3217
  v3218.toNat
def k0_dev4 (d0 : Dev nD) : Nat :=
  let c0_i32_631 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_628 : BitVec 32 := 8#32
  let v3219 : BitVec 32 := Scalar.xori v2 c8_i32_628
  let c1_i32_630 : BitVec 32 := 1#32
  let v3220 : BitVec 32 := Scalar.muli v3219 c1_i32_630
  let v3221 : BitVec 32 := Scalar.addi c0_i32_631 v3220
  v3221.toNat
def k0_cond2 (i : grid0.Coords) : BitVec 1 :=
  let arg0 : BitVec 32 := BitVec.ofNat 32 (i 0).val
  let c0_i32_262 : BitVec 32 := 0#32
  let v1862 : BitVec 1 := Scalar.cmpi .sgt arg0 c0_i32_262
  let v1863 : BitVec 32 := Scalar.extui v1862
  let c0_i32_263 : BitVec 32 := 0#32
  let v1864 : BitVec 1 := Scalar.cmpi .ne v1863 c0_i32_263
  v1864

def k0_dev5 (d0 : Dev nD) : Nat :=
  let c0_i32_619 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_259 : BitVec 32 := 1#32
  let v1857 : BitVec 32 := Scalar.xori v2 c1_i32_259
  let c1_i32_618 : BitVec 32 := 1#32
  let v3211 : BitVec 32 := Scalar.muli v1857 c1_i32_618
  let v3212 : BitVec 32 := Scalar.addi c0_i32_619 v3211
  v3212.toNat
def k0_dev6 (d0 : Dev nD) : Nat :=
  let c0_i32_265 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_259 : BitVec 32 := 1#32
  let v1857 : BitVec 32 := Scalar.xori v2 c1_i32_259
  let c1_i32_264 : BitVec 32 := 1#32
  let v1865 : BitVec 32 := Scalar.muli v1857 c1_i32_264
  let v1866 : BitVec 32 := Scalar.addi c0_i32_265 v1865
  v1866.toNat
def k0_dev7 (d0 : Dev nD) : Nat :=
  let c0_i32_319 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_313 : BitVec 32 := 2#32
  let v2155 : BitVec 32 := Scalar.xori v2 c2_i32_313
  let c1_i32_318 : BitVec 32 := 1#32
  let v2162 : BitVec 32 := Scalar.muli v2155 c1_i32_318
  let v2163 : BitVec 32 := Scalar.addi c0_i32_319 v2162
  v2163.toNat
def k0_dev8 (d0 : Dev nD) : Nat :=
  let c0_i32_323 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_313 : BitVec 32 := 2#32
  let v2155 : BitVec 32 := Scalar.xori v2 c2_i32_313
  let c1_i32_322 : BitVec 32 := 1#32
  let v2166 : BitVec 32 := Scalar.muli v2155 c1_i32_322
  let v2167 : BitVec 32 := Scalar.addi c0_i32_323 v2166
  v2167.toNat
def k0_dev9 (d0 : Dev nD) : Nat :=
  let c0_i32_338 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_332 : BitVec 32 := 1#32
  let v2180 : BitVec 32 := Scalar.xori v2 c1_i32_332
  let c1_i32_337 : BitVec 32 := 1#32
  let v2187 : BitVec 32 := Scalar.muli v2180 c1_i32_337
  let v2188 : BitVec 32 := Scalar.addi c0_i32_338 v2187
  v2188.toNat
def k0_dev10 (d0 : Dev nD) : Nat :=
  let c0_i32_343 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_332 : BitVec 32 := 1#32
  let v2180 : BitVec 32 := Scalar.xori v2 c1_i32_332
  let c1_i32_342 : BitVec 32 := 1#32
  let v2191 : BitVec 32 := Scalar.muli v2180 c1_i32_342
  let v2192 : BitVec 32 := Scalar.addi c0_i32_343 v2191
  v2192.toNat
def k0_dev11 (d0 : Dev nD) : Nat :=
  let c0_i32_398 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_392 : BitVec 32 := 4#32
  let v2481 : BitVec 32 := Scalar.xori v2 c4_i32_392
  let c1_i32_397 : BitVec 32 := 1#32
  let v2488 : BitVec 32 := Scalar.muli v2481 c1_i32_397
  let v2489 : BitVec 32 := Scalar.addi c0_i32_398 v2488
  v2489.toNat
def k0_dev12 (d0 : Dev nD) : Nat :=
  let c0_i32_403 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_392 : BitVec 32 := 4#32
  let v2481 : BitVec 32 := Scalar.xori v2 c4_i32_392
  let c1_i32_402 : BitVec 32 := 1#32
  let v2492 : BitVec 32 := Scalar.muli v2481 c1_i32_402
  let v2493 : BitVec 32 := Scalar.addi c0_i32_403 v2492
  v2493.toNat
def k0_dev13 (d0 : Dev nD) : Nat :=
  let c0_i32_418 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_412 : BitVec 32 := 2#32
  let v2506 : BitVec 32 := Scalar.xori v2 c2_i32_412
  let c1_i32_417 : BitVec 32 := 1#32
  let v2513 : BitVec 32 := Scalar.muli v2506 c1_i32_417
  let v2514 : BitVec 32 := Scalar.addi c0_i32_418 v2513
  v2514.toNat
def k0_dev14 (d0 : Dev nD) : Nat :=
  let c0_i32_423 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_412 : BitVec 32 := 2#32
  let v2506 : BitVec 32 := Scalar.xori v2 c2_i32_412
  let c1_i32_422 : BitVec 32 := 1#32
  let v2517 : BitVec 32 := Scalar.muli v2506 c1_i32_422
  let v2518 : BitVec 32 := Scalar.addi c0_i32_423 v2517
  v2518.toNat
def k0_dev15 (d0 : Dev nD) : Nat :=
  let c0_i32_439 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_433 : BitVec 32 := 1#32
  let v2531 : BitVec 32 := Scalar.xori v2 c1_i32_433
  let c1_i32_438 : BitVec 32 := 1#32
  let v2538 : BitVec 32 := Scalar.muli v2531 c1_i32_438
  let v2539 : BitVec 32 := Scalar.addi c0_i32_439 v2538
  v2539.toNat
def k0_dev16 (d0 : Dev nD) : Nat :=
  let c0_i32_444 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_433 : BitVec 32 := 1#32
  let v2531 : BitVec 32 := Scalar.xori v2 c1_i32_433
  let c1_i32_443 : BitVec 32 := 1#32
  let v2542 : BitVec 32 := Scalar.muli v2531 c1_i32_443
  let v2543 : BitVec 32 := Scalar.addi c0_i32_444 v2542
  v2543.toNat
def k0_dev17 (d0 : Dev nD) : Nat :=
  let c0_i32_498 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_493 : BitVec 32 := 8#32
  let v2832 : BitVec 32 := Scalar.xori v2 c8_i32_493
  let c1_i32_497 : BitVec 32 := 1#32
  let v2839 : BitVec 32 := Scalar.muli v2832 c1_i32_497
  let v2840 : BitVec 32 := Scalar.addi c0_i32_498 v2839
  v2840.toNat
def k0_dev18 (d0 : Dev nD) : Nat :=
  let c0_i32_503 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_493 : BitVec 32 := 8#32
  let v2832 : BitVec 32 := Scalar.xori v2 c8_i32_493
  let c1_i32_502 : BitVec 32 := 1#32
  let v2843 : BitVec 32 := Scalar.muli v2832 c1_i32_502
  let v2844 : BitVec 32 := Scalar.addi c0_i32_503 v2843
  v2844.toNat
def k0_dev19 (d0 : Dev nD) : Nat :=
  let c0_i32_518 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_512 : BitVec 32 := 4#32
  let v2857 : BitVec 32 := Scalar.xori v2 c4_i32_512
  let c1_i32_517 : BitVec 32 := 1#32
  let v2864 : BitVec 32 := Scalar.muli v2857 c1_i32_517
  let v2865 : BitVec 32 := Scalar.addi c0_i32_518 v2864
  v2865.toNat
def k0_dev20 (d0 : Dev nD) : Nat :=
  let c0_i32_523 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_512 : BitVec 32 := 4#32
  let v2857 : BitVec 32 := Scalar.xori v2 c4_i32_512
  let c1_i32_522 : BitVec 32 := 1#32
  let v2868 : BitVec 32 := Scalar.muli v2857 c1_i32_522
  let v2869 : BitVec 32 := Scalar.addi c0_i32_523 v2868
  v2869.toNat
def k0_dev21 (d0 : Dev nD) : Nat :=
  let c0_i32_539 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_533 : BitVec 32 := 2#32
  let v2882 : BitVec 32 := Scalar.xori v2 c2_i32_533
  let c1_i32_538 : BitVec 32 := 1#32
  let v2889 : BitVec 32 := Scalar.muli v2882 c1_i32_538
  let v2890 : BitVec 32 := Scalar.addi c0_i32_539 v2889
  v2890.toNat
def k0_dev22 (d0 : Dev nD) : Nat :=
  let c0_i32_544 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_533 : BitVec 32 := 2#32
  let v2882 : BitVec 32 := Scalar.xori v2 c2_i32_533
  let c1_i32_543 : BitVec 32 := 1#32
  let v2893 : BitVec 32 := Scalar.muli v2882 c1_i32_543
  let v2894 : BitVec 32 := Scalar.addi c0_i32_544 v2893
  v2894.toNat
def k0_dev23 (d0 : Dev nD) : Nat :=
  let c0_i32_560 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_554 : BitVec 32 := 1#32
  let v2907 : BitVec 32 := Scalar.xori v2 c1_i32_554
  let c1_i32_559 : BitVec 32 := 1#32
  let v2914 : BitVec 32 := Scalar.muli v2907 c1_i32_559
  let v2915 : BitVec 32 := Scalar.addi c0_i32_560 v2914
  v2915.toNat
def k0_dev24 (d0 : Dev nD) : Nat :=
  let c0_i32_565 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_554 : BitVec 32 := 1#32
  let v2907 : BitVec 32 := Scalar.xori v2 c1_i32_554
  let c1_i32_564 : BitVec 32 := 1#32
  let v2918 : BitVec 32 := Scalar.muli v2907 c1_i32_564
  let v2919 : BitVec 32 := Scalar.addi c0_i32_565 v2918
  v2919.toNat
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S65536x1024 : Shape := ⟨2, ![65536, 1024]⟩

abbrev nBuf : Space → Nat
  | .hbm => 2
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Proof.Stages.lean ====
/-
  What one stage of the sort computes, as the kernel writes it: the stages that stay inside one device's block, and the combination of a
  device's block with the block its partner sent. Everything is a function of the float operations, so the module serves every float instance.
-/
module

public import Idealize.ShloMosaic.PureOps

@[expose] public section

noncomputable section

namespace Cert.Net

open Idealize.ShloMosaic

/-- The shape of the block a device sorts at one grid point: 4096 rows of 256 columns. -/
abbrev Blk : Shape := ⟨2, ![4096, 256]⟩
/-- One flag per row. -/
abbrev Col : Shape := ⟨2, ![4096, 1]⟩
/-- `a` rows of the block. -/
abbrev Rows (a : ℕ) : Shape := ⟨2, ![a, 256]⟩
/-- The block cut in `A` groups of `B` rows. -/
abbrev Cut (A B : ℕ) : Shape := ⟨3, ![A, B, 256]⟩
/-- One flag per group of rows. -/
abbrev CutCol (A : ℕ) : Shape := ⟨3, ![A, 1, 1]⟩

/-! ## The shape conditions -/

theorem rows_slices {j a : ℕ} (h : j + a ≤ 4096) : Blk.Slices ![j, 0] (Rows a) :=
  ⟨rfl, fun x => by fin_cases x <;> simp <;> omega⟩

theorem rows_concat {a b : ℕ} (h : a + b = 4096) : Shape.Concatenates [Rows a, Rows b] Blk 0 := by
  refine ⟨le_refl _, ?_, ?_⟩
  · intro s hs
    simp only [List.mem_cons, List.not_mem_nil, or_false] at hs
    rcases hs with rfl | rfl <;> exact ⟨rfl, fun x hx => by fin_cases x <;> simp_all⟩
  · simp [h]

theorem cut_numel {A B : ℕ} (h : A * (2 * B) = 4096) : (Cut A (2 * B)).numel = Blk.numel := by
  simp only [Shape.numel, Fin.prod_univ_three, Fin.prod_univ_two]
  show A * (2 * B) * 256 = 4096 * 256
  rw [h]

theorem cut_slices_low (A B : ℕ) : (Cut A (2 * B)).Slices ![0, 0, 0] (Cut A B) :=
  ⟨rfl, fun x => by fin_cases x <;> simp <;> omega⟩

theorem cut_slices_high (A B : ℕ) : (Cut A (2 * B)).Slices ![0, B, 0] (Cut A B) :=
  ⟨rfl, fun x => by fin_cases x <;> simp <;> omega⟩

theorem cut_concat (A B : ℕ) : Shape.Concatenates [Cut A B, Cut A B] (Cut A (2 * B)) 1 := by
  refine ⟨le_refl _, ?_, ?_⟩
  · intro s hs
    simp only [List.mem_cons, List.not_mem_nil, or_false, or_self] at hs
    subst hs
    exact ⟨rfl, fun x hx => by fin_cases x <;> simp_all⟩
  · simp; omega

theorem cutCol_iotas (A : ℕ) : (CutCol A).Iotas .tc 32 [0] := by
  refine ⟨by simp, fun _ => ⟨Or.inr rfl, ?_⟩, fun h => absurd rfl h⟩
  show 2 ≤ 3
  decide

theorem cutCol_broadcasts (A B : ℕ) : (CutCol A).Broadcasts (Cut A B) :=
  ⟨le_refl _, fun x => by fin_cases x <;> first | exact Or.inl rfl | exact Or.inr fun _ => rfl⟩

theorem col_iotas : Col.Iotas .tc 32 [0] := by decide
theorem col_broadcasts : Col.Broadcasts Blk := by decide

/-! ## The stages -/

variable {F : FTy → Type} [FloatOps F]

/-- The row numbers of a block whose first row is number `g0`. -/
def rowNo (g0 : BitVec 32) : IVec Col 32 := addi (broadcast Col g0) (iota .tc Col 32 [0] col_iotas)

/-- Per row, whether the row number has a bit of the mask `w`. -/
def bitSet (g0 w : BitVec 32) : IVec Col 1 := cmpi .ne (andi (rowNo g0) (broadcast Col w)) (broadcast Col 0#32)
/-- Per row, whether it has none. -/
def bitClear (g0 w : BitVec 32) : IVec Col 1 := cmpi .eq (andi (rowNo g0) (broadcast Col w)) (broadcast Col 0#32)

/-- One flag per row, spread over the columns. -/
def spread (x : IVec Col 1) : IVec Blk 1 := broadcastTo Blk (shapeCast Col x rfl) col_broadcasts

/-- Rows `j` below, cyclically (`j + b` is all the rows). -/
def rollUp (j b : ℕ) (h : j + b = 4096) (x : FVec F Blk .f32) : FVec F Blk .f32 :=
  concatenate Blk 0 [⟨Rows b, extractStridedSlice (Rows b) ![j, 0] x (rows_slices (by omega))⟩,
    ⟨Rows j, extractStridedSlice (Rows j) ![0, 0] x (rows_slices (by omega))⟩] (rows_concat (by omega))

/-- Rows `j` above, cyclically. -/
def rollDown (j b : ℕ) (h : j + b = 4096) (x : FVec F Blk .f32) : FVec F Blk .f32 :=
  concatenate Blk 0 [⟨Rows j, extractStridedSlice (Rows j) ![b, 0] x (rows_slices (by omega))⟩,
    ⟨Rows b, extractStridedSlice (Rows b) ![0, 0] x (rows_slices (by omega))⟩] (rows_concat (by omega))

/-- The row at distance `j` that a row is compared with. -/
def mate (j b : ℕ) (h : j + b = 4096) (g0 jw : BitVec 32) (x : FVec F Blk .f32) : FVec F Blk .f32 :=
  select (spread (bitSet g0 jw)) (rollDown j b h x) (rollUp j b h x)

/-- A stage at a short distance `j` (1, 2 or 4): both neighbours are fetched by a cyclic shift and each row takes the one it pairs with. -/
def smallStage (j b : ℕ) (h : j + b = 4096) (g0 kw jw : BitVec 32) (x : FVec F Blk .f32) : FVec F Blk .f32 :=
  select (spread (xori (bitClear g0 kw) (bitSet g0 jw))) (minimumf x (mate j b h g0 jw x)) (maximumf x (mate j b h g0 jw x))

/-- The lower halves of the `A` groups of `2 B` rows. -/
def lowHalf (A B : ℕ) (h : A * (2 * B) = 4096) (x : FVec F Blk .f32) : FVec F (Cut A B) .f32 :=
  extractStridedSlice (Cut A B) ![0, 0, 0] (shapeCast (Cut A (2 * B)) x (cut_numel h)) (cut_slices_low A B)

/-- The upper halves. -/
def highHalf (A B : ℕ) (h : A * (2 * B) = 4096) (x : FVec F Blk .f32) : FVec F (Cut A B) .f32 :=
  extractStridedSlice (Cut A B) ![0, B, 0] (shapeCast (Cut A (2 * B)) x (cut_numel h)) (cut_slices_high A B)

/-- Per group, whether the number of its first row has no bit of the mask. -/
def groupClear (A : ℕ) (g0 kw gw : BitVec 32) : IVec (CutCol A) 1 :=
  cmpi .eq (andi (addi (broadcast (CutCol A) g0) (muli (iota .tc (CutCol A) 32 [0] (cutCol_iotas A)) (broadcast (CutCol A) gw)))
    (broadcast (CutCol A) kw)) (broadcast (CutCol A) 0#32)

/-- One flag per group, spread over its rows and the columns. -/
def groupSpread (A B : ℕ) (x : IVec (CutCol A) 1) : IVec (Cut A B) 1 :=
  broadcastTo (Cut A B) (shapeCast (CutCol A) x rfl) (cutCol_broadcasts A B)

/-- A stage at a distance of `B` rows (8 and up): the block is cut in groups of `2 B` rows, whose halves are compared row by row. -/
def bigStage (A B : ℕ) (h : A * (2 * B) = 4096) (g0 kw gw : BitVec 32) (x : FVec F Blk .f32) : FVec F Blk .f32 :=
  shapeCast Blk (concatenate (Cut A (2 * B)) 1
    [⟨Cut A B, select (groupSpread A B (groupClear A g0 kw gw)) (minimumf (lowHalf A B h x) (highHalf A B h x))
        (maximumf (lowHalf A B h x) (highHalf A B h x))⟩,
      ⟨Cut A B, select (groupSpread A B (groupClear A g0 kw gw)) (maximumf (lowHalf A B h x) (highHalf A B h x))
        (minimumf (lowHalf A B h x) (highHalf A B h x))⟩] (cut_concat A B)) (cut_numel h).symm

/-- The stage at distance `2 ^ s` of level `l` (whose runs are `2 ^ l` rows), on a block whose first row is number `g0`. -/
def localStage (l : ℕ) (g0 : BitVec 32) (s : ℕ) (x : FVec F Blk .f32) : FVec F Blk .f32 :=
  match s with
  | 0 => smallStage 1 4095 rfl g0 (BitVec.ofNat 32 (2 ^ l)) 1#32 x
  | 1 => smallStage 2 4094 rfl g0 (BitVec.ofNat 32 (2 ^ l)) 2#32 x
  | 2 => smallStage 4 4092 rfl g0 (BitVec.ofNat 32 (2 ^ l)) 4#32 x
  | 3 => bigStage 256 8 rfl g0 (BitVec.ofNat 32 (2 ^ l)) 16#32 x
  | 4 => bigStage 128 16 rfl g0 (BitVec.ofNat 32 (2 ^ l)) 32#32 x
  | 5 => bigStage 64 32 rfl g0 (BitVec.ofNat 32 (2 ^ l)) 64#32 x
  | 6 => bigStage 32 64 rfl g0 (BitVec.ofNat 32 (2 ^ l)) 128#32 x
  | 7 => bigStage 16 128 rfl g0 (BitVec.ofNat 32 (2 ^ l)) 256#32 x
  | 8 => bigStage 8 256 rfl g0 (BitVec.ofNat 32 (2 ^ l)) 512#32 x
  | 9 => bigStage 4 512 rfl g0 (BitVec.ofNat 32 (2 ^ l)) 1024#32 x
  | 10 => bigStage 2 1024 rfl g0 (BitVec.ofNat 32 (2 ^ l)) 2048#32 x
  | 11 => bigStage 1 2048 rfl g0 (BitVec.ofNat 32 (2 ^ l)) 4096#32 x
  | _ => x

/-- The stages of level `l` at the distances `2 ^ (m - 1)` down to 1. -/
def downTo (l : ℕ) (g0 : BitVec 32) : ℕ → FVec F Blk .f32 → FVec F Blk .f32
  | 0, x => x
  | m + 1, x => downTo l g0 m (localStage l g0 m x)

/-- The first `n` levels, all of whose stages are local. -/
def levels (g0 : BitVec 32) : ℕ → FVec F Blk .f32 → FVec F Blk .f32
  | 0, x => x
  | n + 1, x => downTo (n + 1) g0 (n + 1) (levels g0 n x)

/-- A device's block in the width it travels in. -/
def packed (x : FVec F Blk .f32) : FVec F Blk .bf16 := shapeCast Blk (truncf .bf16 x (by decide)) rfl

/-- A device's block combined with its partner's: device `v2`, whose first row is number `g0`, at level `l`, the partner's number differing in
    bit `e`. The lesser entries where the device holds the lower end of an ascending run or the upper end of a descending one. -/
def combine (l e : ℕ) (v2 g0 : BitVec 32) (x : FVec F Blk .f32) (y : FVec F Blk .bf16) : FVec F Blk .f32 :=
  Scalar.select
    (Scalar.xori (Scalar.cmpi .eq (Scalar.andi g0 (BitVec.ofNat 32 (2 ^ l))) 0#32)
      (Scalar.cmpi .ne (Scalar.andi v2 (BitVec.ofNat 32 (2 ^ e))) 0#32))
    (minimumf x (extf .f32 y (by decide))) (maximumf x (extf .f32 y (by decide)))

/-- The level of each of the ten exchanges. -/
def exLevel : ℕ → ℕ
  | 0 => 13 | 1 => 14 | 2 => 14 | 3 => 15 | 4 => 15 | 5 => 15 | _ => 16
/-- Which bit of the device's number each exchange is across. -/
def exBit : ℕ → ℕ
  | 0 => 0 | 1 => 1 | 2 => 0 | 3 => 2 | 4 => 1 | 5 => 0 | 6 => 3 | 7 => 2 | 8 => 1 | _ => 0

/-- What follows an exchange: the level's local stages, after the level's last one. -/
def settle (s : ℕ) (g0 : BitVec 32) (x : FVec F Blk .f32) : FVec F Blk .f32 :=
  match exBit s with
  | 0 => downTo (exLevel s) g0 12 x
  | _ => x

/-- An exchange and what follows it. -/
def afterEx (s : ℕ) (v2 g0 : BitVec 32) (x : FVec F Blk .f32) (y : FVec F Blk .bf16) : FVec F Blk .f32 :=
  settle s g0 (combine (exLevel s) (exBit s) v2 g0 x y)

end Cert.Net

end
-- ==== Proof.BodyForm.lean ====
/-
  The kernel's body, in a form in which its ten exchanges are one piece of program used ten times.
-/
module

public import proofs.«01_k».proof.Proof.Gen.KernelIdeal
public import proofs.«01_k».proof.Proof.Stages
public import Idealize.ShloMosaic.Lib.Tactic

@[expose] public section

noncomputable section

namespace Cert.KernelIdeal

open Idealize.ShloMosaic Idealize.SL.Sem
open Cert.Net

variable {F : FTy → Type} [FloatOps F]
variable [Facts]
open Facts₀ Facts

/-- A device's number along the axis, as the kernel computes it. -/
def devNo (d0 : Dev nD) : BitVec 32 := Scalar.remsi (Scalar.divsi (Dev.word d0) 1#32) 16#32
/-- The number of a device's first row. -/
def firstRow (d0 : Dev nD) : BitVec 32 := Scalar.muli (devNo d0) 4096#32

/-- The semaphore on which a device is told that its partner across bit `e` has taken what it sent. -/
def readySem (arg7 : Sems sig S4) : ℕ → Sem sig
  | 0 => ((arg7.slice (Rect.unit (s := S4) ![0] S1.size inb_S4_S1_0)).squeeze S_ squeezes_S1_S_).sem
  | 1 => ((arg7.slice (Rect.unit (s := S4) ![1] S1.size inb_S4_S1_1)).squeeze S_ squeezes_S1_S_).sem
  | 2 => ((arg7.slice (Rect.unit (s := S4) ![2] S1.size inb_S4_S1_2)).squeeze S_ squeezes_S1_S_).sem
  | _ => ((arg7.slice (Rect.unit (s := S4) ![3] S1.size inb_S4_S1_3)).squeeze S_ squeezes_S1_S_).sem

/-- The semaphore of the barrier. -/
abbrev barSem : Sem sig := (SemArray.scalar (sig.barrier 0 rfl) : Sems sig S_).sem

/-- The barrier: a device tells its four neighbours it has started, and waits to be told so by them. -/
def barrierPart (b1 b2 b3 b4 : Dev nD) : Prog (TpuEff nD τ sig (Elt F) Λ₀ .tc) PUnit := do
  semSignalWord b1 barSem 1#32
  semSignalWord b2 barSem 1#32
  semSignalWord b3 barSem 1#32
  semSignalWord b4 barSem 1#32
  semWaitWord barSem 4#32

/-- Telling the partner its block has been taken, and waiting to be told so. -/
def credit (dst : Dev nD) (sm : Sem sig) : Prog (TpuEff nD τ sig (Elt F) Λ₀ .tc) PUnit := do
  semSignalWord dst sm 1#32
  semWaitWord sm 1#32

/-- The block put in the sending buffer. -/
def place (arg3 : Memref sig .tc .vmem S4096x256 .bf16) (harg3 : arg3.IsWhole) (x : FVec F S4096x256 .f32) :
    Prog (TpuEff nD τ sig (Elt F) Λ₀ .tc) PUnit := do
  let _ : Vec F S4096x256 .bf16 ← Prog.lift (.load arg3 (Rect.unit (s := S4096x256) ![0, 0] S4096x256.size inb_S4096x256_S4096x256_0_0).toLoadRect (View.loadsAt_vmem h_S4096x256))
  Prog.lift (.store arg3 (Rect.unit (s := S4096x256) ![0, 0] S4096x256.size inb_S4096x256_S4096x256_0_0) (packed x) Finset.univ (View.stores_vmem h_S4096x256 (harg3.storeExact_slice rfl _ packedbf16_S4096x256_S4096x256_0_0) (fun _ => rfl)) (.inl rfl))

/-- The sending buffer copied to the partner's receiving buffer, both ends waited for, and the own receiving buffer read. -/
def swap (arg3 : Memref sig .tc .vmem S4096x256 .bf16) (harg3 : arg3.IsWhole) (arg4 : Memref sig .tc .vmem S4096x256 .bf16) (harg4 : arg4.IsWhole)
    (arg5 : DmaSems sig S_) (arg6 : DmaSems sig S_) (dst : Dev nD) : Prog (TpuEff nD τ sig (Elt F) Λ₀ .tc) (Vec F S4096x256 .bf16) := do
  Prog.lift (.enqueueDma arg3 (.remote (Dev.tc dst) arg4 (.dma arg5.sem)) (.dma arg6.sem) harg3.wordExact harg4.wordExact ⟨⟨rfl, Or.inl rfl⟩, trivial⟩)
  Prog.lift (.waitDma2 arg5.sem arg4 arg3 harg4.wordExact harg3.wordExact)
  Prog.lift (.waitDma2 arg6.sem arg3 arg4 harg3.wordExact harg4.wordExact)
  Prog.lift (.load arg4 (Rect.unit (s := S4096x256) ![0, 0] S4096x256.size inb_S4096x256_S4096x256_0_0).toLoadRect (View.loadsAt_vmem h_S4096x256))

/-- An exchange: the block is put in the sending buffer, both devices acknowledge their last exchange (`pre`), and the blocks are swapped. -/
def exchange (arg3 : Memref sig .tc .vmem S4096x256 .bf16) (harg3 : arg3.IsWhole) (arg4 : Memref sig .tc .vmem S4096x256 .bf16) (harg4 : arg4.IsWhole)
    (arg5 : DmaSems sig S_) (arg6 : DmaSems sig S_) (dst : Dev nD) (pre : Prog (TpuEff nD τ sig (Elt F) Λ₀ .tc) PUnit) (x : FVec F S4096x256 .f32) :
    Prog (TpuEff nD τ sig (Elt F) Λ₀ .tc) (Vec F S4096x256 .bf16) := do
  place arg3 harg3 x
  pre
  swap arg3 harg3 arg4 harg4 arg5 arg6 dst

/-- A grid point's work on device `d0`: the block loaded and sorted in part, ten exchanges with the partners `dst`, acknowledged at
    the partners `ack`, and the block stored. `start` comes before everything, `first` is the first exchange's acknowledgement. -/
def bodyOf (arg1 : Memref sig .tc .vmem S4096x256 .f32) (arg2 : Memref sig .tc .vmem S4096x256 .f32) (arg3 : Memref sig .tc .vmem S4096x256 .bf16) (harg3 : arg3.IsWhole) (arg4 : Memref sig .tc .vmem S4096x256 .bf16) (harg4 : arg4.IsWhole)
    (arg5 : DmaSems sig S_) (arg6 : DmaSems sig S_) (arg7 : Sems sig S4)
    (start first : Prog (TpuEff nD τ sig (Elt F) Λ₀ .tc) PUnit) (dst ack : ℕ → Dev nD) (d0 : Dev nD) : Prog (TpuEff nD τ sig (Elt F) Λ₀ .tc) PUnit := do
  start
  let v7 : Vec F S4096x256 .f32 ← Prog.lift (.load arg1 (Rect.unit (s := S4096x256) ![0, 0] S4096x256.size inb_S4096x256_S4096x256_0_0).toLoadRect (View.loadsAt_vmem h_S4096x256))
  let x0 : FVec F S4096x256 .f32 := levels (firstRow d0) 12 (shapeCast S4096x256 v7 shapeCasts_S4096x256_S4096x256)
  let y0 ← exchange arg3 harg3 arg4 harg4 arg5 arg6 (dst 0) first x0
  let x1 := afterEx 0 (devNo d0) (firstRow d0) x0 y0
  let y1 ← exchange arg3 harg3 arg4 harg4 arg5 arg6 (dst 1) (credit (ack 1) (readySem arg7 1)) x1
  let x2 := afterEx 1 (devNo d0) (firstRow d0) x1 y1
  let y2 ← exchange arg3 harg3 arg4 harg4 arg5 arg6 (dst 2) (credit (ack 2) (readySem arg7 0)) x2
  let x3 := afterEx 2 (devNo d0) (firstRow d0) x2 y2
  let y3 ← exchange arg3 harg3 arg4 harg4 arg5 arg6 (dst 3) (credit (ack 3) (readySem arg7 2)) x3
  let x4 := afterEx 3 (devNo d0) (firstRow d0) x3 y3
  let y4 ← exchange arg3 harg3 arg4 harg4 arg5 arg6 (dst 4) (credit (ack 4) (readySem arg7 1)) x4
  let x5 := afterEx 4 (devNo d0) (firstRow d0) x4 y4
  let y5 ← exchange arg3 harg3 arg4 harg4 arg5 arg6 (dst 5) (credit (ack 5) (readySem arg7 0)) x5
  let x6 := afterEx 5 (devNo d0) (firstRow d0) x5 y5
  let y6 ← exchange arg3 harg3 arg4 harg4 arg5 arg6 (dst 6) (credit (ack 6) (readySem arg7 3)) x6
  let x7 := afterEx 6 (devNo d0) (firstRow d0) x6 y6
  let y7 ← exchange arg3 harg3 arg4 harg4 arg5 arg6 (dst 7) (credit (ack 7) (readySem arg7 2)) x7
  let x8 := afterEx 7 (devNo d0) (firstRow d0) x7 y7
  let y8 ← exchange arg3 harg3 arg4 harg4 arg5 arg6 (dst 8) (credit (ack 8) (readySem arg7 1)) x8
  let x9 := afterEx 8 (devNo d0) (firstRow d0) x8 y8
  let y9 ← exchange arg3 harg3 arg4 harg4 arg5 arg6 (dst 9) (credit (ack 9) (readySem arg7 0)) x9
  let _ : Vec F S4096x256 .f32 ← Prog.lift (.load arg2 (Rect.unit (s := S4096x256) ![0, 0] S4096x256.size inb_S4096x256_S4096x256_0_0).toLoadRect (View.loadsAt_vmem h_S4096x256))
  Prog.lift (.store arg2 (Rect.unit (s := S4096x256) ![0, 0] S4096x256.size inb_S4096x256_S4096x256_0_0) (afterEx 9 (devNo d0) (firstRow d0) x9 y9) Finset.univ (View.stores_vmem_bits_univ h_S4096x256 rfl) (.inl rfl))
  pure ⟨⟩

/-- The devices the kernel names as the targets of its copies. -/
def dstDev (d0 : Dev nD) : ℕ → Dev nD
  | 0 => ⟨k0_dev6 d0, k0_dev6_lt d0⟩
  | 1 => ⟨k0_dev8 d0, k0_dev8_lt d0⟩
  | 2 => ⟨k0_dev10 d0, k0_dev10_lt d0⟩
  | 3 => ⟨k0_dev12 d0, k0_dev12_lt d0⟩
  | 4 => ⟨k0_dev14 d0, k0_dev14_lt d0⟩
  | 5 => ⟨k0_dev16 d0, k0_dev16_lt d0⟩
  | 6 => ⟨k0_dev18 d0, k0_dev18_lt d0⟩
  | 7 => ⟨k0_dev20 d0, k0_dev20_lt d0⟩
  | 8 => ⟨k0_dev22 d0, k0_dev22_lt d0⟩
  | 9 => ⟨k0_dev24 d0, k0_dev24_lt d0⟩
  | _ => d0

/-- The devices the kernel names as the targets of its acknowledgements, after the first. -/
def ackDev (d0 : Dev nD) : ℕ → Dev nD
  | 1 => ⟨k0_dev7 d0, k0_dev7_lt d0⟩
  | 2 => ⟨k0_dev9 d0, k0_dev9_lt d0⟩
  | 3 => ⟨k0_dev11 d0, k0_dev11_lt d0⟩
  | 4 => ⟨k0_dev13 d0, k0_dev13_lt d0⟩
  | 5 => ⟨k0_dev15 d0, k0_dev15_lt d0⟩
  | 6 => ⟨k0_dev17 d0, k0_dev17_lt d0⟩
  | 7 => ⟨k0_dev19 d0, k0_dev19_lt d0⟩
  | 8 => ⟨k0_dev21 d0, k0_dev21_lt d0⟩
  | 9 => ⟨k0_dev23 d0, k0_dev23_lt d0⟩
  | _ => d0

section Points

variable {arg1 : Memref sig .tc .vmem S4096x256 .f32} (harg1 : arg1.IsWhole) {arg2 : Memref sig .tc .vmem S4096x256 .f32} (harg2 : arg2.IsWhole) {arg3 : Memref sig .tc .vmem S4096x256 .bf16} (harg3 : arg3.IsWhole) {arg4 : Memref sig .tc .vmem S4096x256 .bf16} (harg4 : arg4.IsWhole) (arg5 : DmaSems sig S_) (arg6 : DmaSems sig S_) (arg7 : Sems sig S4)

/-- The printed body at the first grid point: the barrier, and no acknowledgement before the first exchange. -/
theorem cc0_body_first (h : 0 < grid0.N) (h1 : k0_cond1 (grid0.coords ⟨0, h⟩) = 1#1) :
    cc0_body (F := F) (grid0.coords ⟨0, h⟩) arg1 harg1 arg2 harg2 arg3 harg3 arg4 harg4 arg5 arg6 arg7
      = (do
        let d0 : Dev nD ← Prog.lift .deviceId
        bodyOf arg1 arg2 arg3 harg3 arg4 harg4 arg5 arg6 arg7
          (barrierPart ⟨k0_dev1 d0, k0_dev1_lt _ d0 h1⟩ ⟨k0_dev2 d0, k0_dev2_lt _ d0 h1⟩ ⟨k0_dev3 d0, k0_dev3_lt _ d0 h1⟩ ⟨k0_dev4 d0, k0_dev4_lt _ d0 h1⟩)
          (pure ⟨⟩) (dstDev d0) (ackDev d0) d0) := by
  sl_kernel_rfl

/-- The printed body at grid point 1: no barrier, an acknowledgement before the first exchange too. -/
theorem cc0_body_next1 (h : 1 < grid0.N) (h2 : k0_cond2 (grid0.coords ⟨1, h⟩) = 1#1) :
    cc0_body (F := F) (grid0.coords ⟨1, h⟩) arg1 harg1 arg2 harg2 arg3 harg3 arg4 harg4 arg5 arg6 arg7
      = (do
        let d0 : Dev nD ← Prog.lift .deviceId
        bodyOf arg1 arg2 arg3 harg3 arg4 harg4 arg5 arg6 arg7 (pure ⟨⟩) (credit ⟨k0_dev5 d0, k0_dev5_lt _ d0 h2⟩ (readySem arg7 0)) (dstDev d0) (ackDev d0) d0) := by
  sl_kernel_rfl

/-- The printed body at grid point 2: no barrier, an acknowledgement before the first exchange too. -/
theorem cc0_body_next2 (h : 2 < grid0.N) (h2 : k0_cond2 (grid0.coords ⟨2, h⟩) = 1#1) :
    cc0_body (F := F) (grid0.coords ⟨2, h⟩) arg1 harg1 arg2 harg2 arg3 harg3 arg4 harg4 arg5 arg6 arg7
      = (do
        let d0 : Dev nD ← Prog.lift .deviceId
        bodyOf arg1 arg2 arg3 harg3 arg4 harg4 arg5 arg6 arg7 (pure ⟨⟩) (credit ⟨k0_dev5 d0, k0_dev5_lt _ d0 h2⟩ (readySem arg7 0)) (dstDev d0) (ackDev d0) d0) := by
  sl_kernel_rfl

/-- The printed body at grid point 3: no barrier, an acknowledgement before the first exchange too. -/
theorem cc0_body_next3 (h : 3 < grid0.N) (h2 : k0_cond2 (grid0.coords ⟨3, h⟩) = 1#1) :
    cc0_body (F := F) (grid0.coords ⟨3, h⟩) arg1 harg1 arg2 harg2 arg3 harg3 arg4 harg4 arg5 arg6 arg7
      = (do
        let d0 : Dev nD ← Prog.lift .deviceId
        bodyOf arg1 arg2 arg3 harg3 arg4 harg4 arg5 arg6 arg7 (pure ⟨⟩) (credit ⟨k0_dev5 d0, k0_dev5_lt _ d0 h2⟩ (readySem arg7 0)) (dstDev d0) (ackDev d0) d0) := by
  sl_kernel_rfl

end Points

end Cert.KernelIdeal

end
-- ==== Proof.Cells.lean ====
/-
  The forty exchanges of the launch, in order: whom each is with, which semaphores it uses, and what each device sends in it.
-/
module

public import proofs.«01_k».proof.Proof.BodyForm
public import proofs.«01_k».proof.Proof.Gen.KernelIdeal.Launch
public import Idealize.ShloMosaic.Lib.Pipeline.Launch
public import Idealize.ShloMosaic.Lib.Pipeline.Kit

@[expose] public section

noncomputable section

namespace Cert.KernelIdeal

open Idealize.ShloMosaic Idealize.ShloMosaic.TcCoe Idealize.SL.Sem
open Cert.Net
open Facts₀ Facts

variable {F : FTy → Type} [FloatOps F]

/-! ## Whom an exchange is with -/

/-- The device whose number differs from `c`'s in bit `e`. -/
def peer (e : Fin 4) (c : Dev nD) : Dev nD := ⟨c.val ^^^ 2 ^ e.val, Nat.xor_lt_two_pow (n := 4) c.isLt (by fin_cases e <;> decide)⟩

theorem peer_peer (e : Fin 4) (c : Dev nD) : peer e (peer e c) = c :=
  Fin.ext (by simp only [peer, Nat.xor_assoc, Nat.xor_self, Nat.xor_zero])

theorem peer_injective (e : Fin 4) : Function.Injective (peer e) := fun a b h => by rw [← peer_peer e a, h, peer_peer]

theorem peer_eq_iff (e : Fin 4) {a b : Dev nD} : a = peer e b ↔ b = peer e a :=
  ⟨fun h => by rw [h, peer_peer], fun h => by rw [h, peer_peer]⟩

theorem peer_bit_injective : ∀ (c : Dev nD) (e e' : Fin 4), peer e c = peer e' c → e = e' := by decide +kernel

theorem exBit_lt (s : ℕ) : exBit s < 4 := by unfold exBit; split <;> decide

/-- The bit of the device number that exchange `n` of the launch is across. -/
def ex (n : ℕ) : Fin 4 := ⟨exBit (n % 10), exBit_lt _⟩

/-- The partner of exchange `n`. -/
abbrev mateOf (n : ℕ) (c : Dev nD) : Dev nD := peer (ex n) c

theorem mateOf_mateOf (n : ℕ) (c : Dev nD) : mateOf n (mateOf n c) = c := peer_peer _ c

/-- How many acknowledgements across bit `e` come before exchange `n`: one for every earlier exchange across that bit, the first excepted. -/
def acks (e : Fin 4) : ℕ → ℕ
  | 0 => 0
  | n + 1 => acks e n + if 1 ≤ n ∧ ex n = e then 1 else 0

theorem acks_mono (e : Fin 4) : Monotone (acks e) := monotone_nat_of_le_succ fun n => Nat.le_add_right _ _

theorem acks_succ {e : Fin 4} {n : ℕ} (h : 1 ≤ n) (he : ex n = e) : acks e (n + 1) = acks e n + 1 := by
  show acks e n + _ = _; rw [if_pos ⟨h, he⟩]

theorem acks_succ_ne {e : Fin 4} {n : ℕ} (he : ex n ≠ e) : acks e (n + 1) = acks e n := by
  show acks e n + _ = _; rw [if_neg fun h => he h.2]; rfl

theorem acks_lt {e : Fin 4} {n n' : ℕ} (h : 1 ≤ n) (he : ex n = e) (hn : n < n') : acks e n < acks e n' :=
  Nat.lt_of_lt_of_le (by rw [acks_succ h he]; exact Nat.lt_succ_self _) (acks_mono e (Nat.succ_le_of_lt hn))

theorem acks_inj {e : Fin 4} {n n' : ℕ} (h : 1 ≤ n) (he : ex n = e) (h' : 1 ≤ n') (he' : ex n' = e) (hr : acks e n = acks e n') : n = n' := by
  rcases Nat.lt_trichotomy n n' with hl | hl | hl
  · exact absurd hr (Nat.ne_of_lt (acks_lt h he hl))
  · exact hl
  · exact absurd hr.symm (Nat.ne_of_lt (acks_lt h' he' hl))

/-- The kernel's own computations of its partners' numbers. -/
theorem dstDev_eq : ∀ (c : Dev nD) (s : Fin 10), dstDev c s = peer ⟨exBit s, exBit_lt _⟩ c := by
  intro c s; fin_cases s <;> (refine Fin.ext ?_; revert c; decide +kernel)
theorem ackDev_eq : ∀ (c : Dev nD) (s : Fin 10), s ≠ 0 → ackDev c s = peer ⟨exBit s, exBit_lt _⟩ c := by
  intro c s hs; fin_cases s <;> first | exact absurd rfl hs | (refine Fin.ext ?_; revert c; decide +kernel)
theorem ack5_eq (i) (c : Dev nD) (h : k0_cond2 i = 1#1) : (⟨k0_dev5 c, k0_dev5_lt i c h⟩ : Dev nD) = peer 0 c := by
  refine Fin.ext ?_; show k0_dev5 c = c.val ^^^ 1; revert c; decide +kernel
theorem bar1_eq (i) (c : Dev nD) (h : k0_cond1 i = 1#1) : (⟨k0_dev1 c, k0_dev1_lt i c h⟩ : Dev nD) = peer 0 c := by
  refine Fin.ext ?_; show k0_dev1 c = c.val ^^^ 1; revert c; decide +kernel
theorem bar2_eq (i) (c : Dev nD) (h : k0_cond1 i = 1#1) : (⟨k0_dev2 c, k0_dev2_lt i c h⟩ : Dev nD) = peer 1 c := by
  refine Fin.ext ?_; show k0_dev2 c = c.val ^^^ 2; revert c; decide +kernel
theorem bar3_eq (i) (c : Dev nD) (h : k0_cond1 i = 1#1) : (⟨k0_dev3 c, k0_dev3_lt i c h⟩ : Dev nD) = peer 2 c := by
  refine Fin.ext ?_; show k0_dev3 c = c.val ^^^ 4; revert c; decide +kernel
theorem bar4_eq (i) (c : Dev nD) (h : k0_cond1 i = 1#1) : (⟨k0_dev4 c, k0_dev4_lt i c h⟩ : Dev nD) = peer 3 c := by
  refine Fin.ext ?_; show k0_dev4 c = c.val ^^^ 8; revert c; decide +kernel

/-! ## The semaphores -/

/-- What a semaphore of the kernel is for. -/
inductive Role where
  | bar
  | send
  | recv
  | ready (e : Fin 4)
deriving DecidableEq

/-- The roles, listed. -/
instance : Fintype Role where
  elems := {.bar, .send, .recv, .ready 0, .ready 1, .ready 2, .ready 3}
  complete k := by
    rcases k with _ | _ | _ | e
    · decide
    · decide
    · decide
    · fin_cases e <;> decide

/-- The semaphore of each role. -/
def roleSem : Role → SemLoc sig
  | .bar => .reg barSem
  | .send => .dma cc0_scratch2.sem
  | .recv => .dma cc0_scratch3.sem
  | .ready e => .reg (readySem cc0_scratch4 e.val)

/-- The role of each semaphore; the pipeline's own have none. -/
def roleOf (g : SemLoc sig) : Option Role :=
  [Role.bar, .send, .recv, .ready 0, .ready 1, .ready 2, .ready 3].find? fun k => decide (roleSem k = g)

theorem roleOf_roleSem : ∀ k : Role, roleOf (roleSem k) = some k := by
  intro k
  rcases k with _ | _ | _ | e
  · decide
  · decide
  · decide
  · fin_cases e <;> decide

theorem roleSem_injective : Function.Injective roleSem := fun a b h =>
  Option.some.inj (by rw [← roleOf_roleSem a, h, roleOf_roleSem])

/-- The semaphore of role `k` on device `c`. -/
abbrev cell (c : Dev nD) (k : Role) : GSem nD τ sig := ((c : Thread nD τ), roleSem k)

theorem cell_inj {c c' : Dev nD} {k k' : Role} (h : cell c k = cell c' k') : c = c' ∧ k = k' :=
  ⟨congrArg (fun g : GSem nD τ sig => g.1.1) h, roleSem_injective (congrArg Prod.snd h)⟩

theorem cell_eq_iff {c c' : Dev nD} {k k' : Role} : cell c k = cell c' k' ↔ c = c' ∧ k = k' :=
  ⟨cell_inj, fun h => by rw [h.1, h.2]⟩

/-! ## What is sent -/

/-- The sending and the receiving buffer. -/
abbrev sM : Memref sig .tc .vmem S4096x256 .bf16 := Memref.whole cc0_scratch0
abbrev bM : Memref sig .tc .vmem S4096x256 .bf16 := Memref.whole cc0_scratch1

/-- The credit of one block's copy. -/
abbrev N : ℕ := (bM : Memref sig .tc .vmem S4096x256 .bf16).view.dmaCredit
theorem N_pos : 0 < N := View.dmaCredit_pos _ (by decide)

/-- The blocks of all devices at one grid point before exchange `s`, from the blocks `Y` they loaded. -/
def before (Y : Dev nD → FVec F Blk .f32) : ℕ → Dev nD → FVec F Blk .f32
  | 0, c => levels (firstRow c) 12 (Y c)
  | s + 1, c => afterEx s (devNo c) (firstRow c) (before Y s c) (packed (before Y s (peer ⟨exBit s, exBit_lt s⟩ c)))

/-- What device `c` sends in exchange `n` of the launch, `X t c` being the block it loads at grid point `t`. -/
def sent (X : ℕ → Dev nD → FVec F Blk .f32) (n : ℕ) (c : Dev nD) : FVec F Blk .bf16 := packed (before (X (n / 10)) (n % 10) c)

end Cert.KernelIdeal

end
-- ==== Proof.Protocol.lean ====
/-
  What the devices promise each other: which signal hands over what, in which order the waits come, and what a device holds between two
  exchanges.
-/
module

public import proofs.«01_k».proof.Proof.Cells
public import Idealize.ShloMosaic.Lib.Tactic

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Net

variable {F : FTy → Type} [FloatOps F]

/-! ## The resource algebra -/

abbrev UB : Type := URounds (GSem nD τ sig) (Fin 4)
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

/-- Device `c`'s sending buffer, holding `f`. -/
def sndPts (c : Dev nD) (f : Buf (Elt F) ((sM : Memref sig .tc .vmem S4096x256 .bf16).view.loc (c : Thread nD τ))) : sProp 𝕄 :=
  (sM : Memref sig .tc .vmem S4096x256 .bf16).view.loc (c : Thread nD τ) ↦[(sM : Memref sig .tc .vmem S4096x256 .bf16).view.set]{fullShare} f
/-- Device `c`'s receiving buffer, holding `f`. -/
def bufPts (c : Dev nD) (f : Buf (Elt F) ((bM : Memref sig .tc .vmem S4096x256 .bf16).view.loc (c : Thread nD τ))) : sProp 𝕄 :=
  (bM : Memref sig .tc .vmem S4096x256 .bf16).view.loc (c : Thread nD τ) ↦[(bM : Memref sig .tc .vmem S4096x256 .bf16).view.set]{fullShare} f

instance sndPts_storable (c : Dev nD) (f) : BI.Storable (upEmb : UEmb _ 𝕄) (sndPts (F := F) c f) := by unfold sndPts; infer_instance
instance bufPts_storable (c : Dev nD) (f) : BI.Storable (upEmb : UEmb _ 𝕄) (bufPts (F := F) c f) := by unfold bufPts; infer_instance

theorem sndPts_eq (c : Dev nD) (f : Buf (Elt F) ((c : Thread nD τ).loc cc0_scratch0)) :
    sndPts c f = (((c : Thread nD τ).loc cc0_scratch0) ↦{fullShare} f : sProp 𝕄) := by unfold sndPts; rw [View.set_whole]
theorem bufPts_eq (c : Dev nD) (f : Buf (Elt F) ((c : Thread nD τ).loc cc0_scratch1)) :
    bufPts c f = (((c : Thread nD τ).loc cc0_scratch1) ↦{fullShare} f : sProp 𝕄) := by unfold bufPts; rw [View.set_whole]

/-! ## The schedule -/

variable (X : ℕ → Dev nD → FVec F Blk .f32)

/-- What is handed over with duty `d` of round `r` of device `c`'s semaphore of role `k`: at the barrier the first partner's receiving
    buffer; with a block sent, the sending buffer back; with a block received, the receiving buffer holding it and that its sender has
    acknowledged; with an acknowledgement, the partner's receiving buffer and that it waits for that exchange's block. -/
def pay (c : Dev nD) (r : ℕ) (d : Fin 4) : Role → sProp 𝕄
  | .bar => if d = 0 then iprop(∃ f, bufPts (peer 0 c) f) else iprop(emp)
  | .send => sndPts c (sent X r c)
  | .recv => iprop(bufPts c (sent X r (mateOf r c)) ∗ reached ER (cell (mateOf r c) (.ready (ex r))) (acks (ex r) (r + 1)))
  | .ready e => iprop(∃ n, ⌜1 ≤ n ∧ n < 40 ∧ ex n = e ∧ acks e n = r⌝ ∗ reached ER (cell (peer e c) .recv) n ∗ ∃ f, bufPts (peer e c) f)

theorem pay_recv (c : Dev nD) (r : ℕ) (d : Fin 4) : pay X c r d .recv
    = iprop(bufPts c (sent X r (mateOf r c)) ∗ reached ER (cell (mateOf r c) (.ready (ex r))) (acks (ex r) (r + 1))) := rfl
theorem pay_send (c : Dev nD) (r : ℕ) (d : Fin 4) : pay X c r d .send = sndPts c (sent X r c) := rfl

/-- The duties of a round, by role. -/
def dut (r : ℕ) : Role → Finset (Fin 4)
  | .bar => if r = 0 then Finset.univ else ∅
  | .send => if r < 40 then {0} else ∅
  | .recv => if r < 40 then {0} else ∅
  | .ready e => if r < acks e 40 then {0} else ∅

/-- The units of a duty, by role. -/
def amt : Role → ℕ
  | .bar => 1
  | .send => N
  | .recv => N
  | .ready _ => 1

theorem amt_pos (k : Role) : 0 < amt k := by
  rcases k with _ | _ | _ | e
  · exact Nat.one_pos
  · exact N_pos
  · exact N_pos
  · exact Nat.one_pos

instance pay_storable (c : Dev nD) (r : ℕ) (d : Fin 4) (k : Role) : BI.Storable (upEmb : UEmb _ 𝕄) (pay X c r d k) := by
  rcases k with _ | _ | _ | e
  · by_cases h : d = 0
    · rw [show pay X c r d .bar = iprop(∃ f, bufPts (peer 0 c) f) from if_pos h]; infer_instance
    · rw [show pay X c r d .bar = iprop(emp) from if_neg h]; infer_instance
  all_goals (unfold pay; infer_instance)

/-- The schedule of all the kernel's semaphores. -/
def sched : Rounds.Schedule (GSem nD τ sig) (Fin 4) 𝕄 where
  duties g r := (roleOf g.2).elim ∅ (dut r)
  unitless _ := False
  amount g _ _ := (roleOf g.2).elim 1 amt
  payload g r d := (roleOf g.2).elim iprop(emp) (pay X g.1.1 r d)
  amount_pos g _ _ _ := by
    cases roleOf g.2 with
    | none => exact Nat.one_pos
    | some k => exact amt_pos k

instance sched_payload_storable (g : GSem nD τ sig) (r : ℕ) (d : Fin 4) : BI.Storable (upEmb : UEmb _ 𝕄) ((sched X).payload g r d) := by
  show BI.Storable upEmb ((roleOf g.2).elim iprop(emp) (pay X g.1.1 r d))
  cases roleOf g.2 with
  | none => exact (inferInstance : BI.Storable (upEmb : UEmb _ 𝕄) iprop(emp))
  | some k => exact pay_storable X g.1.1 r d k

theorem duties_cell (c : Dev nD) (k : Role) (r : ℕ) : (sched X).duties (cell c k) r = dut r k := by
  show (roleOf (roleSem k)).elim ∅ (dut r) = _; rw [roleOf_roleSem]; rfl
theorem amount_cell (c : Dev nD) (k : Role) (r : ℕ) (d : Fin 4) : (sched X).amount (cell c k) r d = amt k := by
  show (roleOf (roleSem k)).elim 1 amt = _; rw [roleOf_roleSem]; rfl
theorem payload_cell (c : Dev nD) (k : Role) (r : ℕ) (d : Fin 4) : (sched X).payload (cell c k) r d = pay X c r d k := by
  show (roleOf (roleSem k)).elim iprop(emp) (pay X c r d) = _; rw [roleOf_roleSem]; rfl

theorem expect_cell (c : Dev nD) (k : Role) (r : ℕ) : (sched X).expect (cell c k) r = (dut r k).card * amt k := by
  unfold Schedule.expect Schedule.amountOf
  rw [duties_cell, Finset.sum_congr rfl fun d _ => amount_cell X c k r d, Finset.sum_const, smul_eq_mul]

/-- A round with one duty hands over that duty's payload. -/
theorem rest_single (g : GSem nD τ sig) {c : Dev nD} {k : Role} {r : ℕ} (hg : g = cell c k) (h : dut r k = {0}) :
    bigSep ((sched X).duties g r \ ∅) (fun d => (sched X).payload g r d) ⊢ (pay X c r 0 k : sProp 𝕄) := by
  subst hg; rw [Finset.sdiff_empty, duties_cell, h, bigSep_singleton, payload_cell]

theorem pay_bar (c : Dev nD) (r : ℕ) : pay X c r 0 .bar = iprop(∃ f, bufPts (peer 0 c) f) := by unfold pay; rw [if_pos rfl]
theorem pay_bar_ne (c : Dev nD) (r : ℕ) {d : Fin 4} (h : d ≠ 0) : pay X c r d .bar = iprop(emp) := by unfold pay; rw [if_neg h]

/-- The barrier hands over the first partner's receiving buffer. -/
theorem rest_bar (g : GSem nD τ sig) {c : Dev nD} (hg : g = cell c .bar) :
    bigSep ((sched X).duties g 0 \ ∅) (fun d => (sched X).payload g 0 d) ⊢ (iprop(∃ f, bufPts (peer 0 c) f) : sProp 𝕄) := by
  subst hg; rw [Finset.sdiff_empty, duties_cell]
  exact (bigSep_elim (Φ := fun d => (sched X).payload (cell c .bar) 0 d) (Finset.mem_univ (0 : Fin 4))).trans
    (Entails.of_eq ((payload_cell X c .bar 0 0).trans (pay_bar X c 0)))

/-! ## What is owed, and the order of the waits -/

/-- What exchange `n` of device `c` gives its partner: the block, and (the first exchange excepted) the acknowledgement before it. -/
def owedAt (c : Dev nD) (n : ℕ) : CellTallies nD τ sig ℕ :=
  tallyAt (cell (mateOf n c) .recv) n N + if n = 0 then 0 else tallyAt (cell (mateOf n c) (.ready (ex n))) n 1

/-- What device `c` owes before exchange `n`. -/
def owedFrom (c : Dev nD) (n : ℕ) : CellTallies nD τ sig ℕ := ∑ n' ∈ Finset.Ico n 40, owedAt c n'

theorem Ico_peel {n : ℕ} (h : n < 40) : Finset.Ico n 40 = insert n (Finset.Ico (n + 1) 40) := by
  ext i; simp only [Finset.mem_insert, Finset.mem_Ico]; omega

theorem owedFrom_peel (c : Dev nD) {n : ℕ} (h : n < 40) : owedFrom c n = owedAt c n + owedFrom c (n + 1) :=
  by unfold owedFrom; rw [Ico_peel h, Finset.sum_insert (by simp)]

theorem owedFrom_end (c : Dev nD) : owedFrom c 40 = 0 := by unfold owedFrom; rw [Finset.Ico_self, Finset.sum_empty]

theorem tallyAt_pos {g g' : GSem nD τ sig} {i i' k : ℕ} (h : 0 < (tallyAt g i k : CellTallies nD τ sig ℕ) g' i') : g' = g ∧ i' = i := by
  rw [tallyAt_apply] at h
  by_contra hn
  rw [if_neg hn] at h; exact Nat.lt_irrefl 0 h

theorem add_pos_or {T T' : CellTallies nD τ sig ℕ} {g : GSem nD τ sig} {i : ℕ} (h : 0 < (T + T') g i) : 0 < T g i ∨ 0 < T' g i := by
  rw [Pi.add_apply, Finsupp.add_apply] at h; omega

theorem owedAt_pos {c : Dev nD} {n : ℕ} {g : GSem nD τ sig} {i : ℕ} (h : 0 < owedAt c n g i) :
    i = n ∧ (g = cell (mateOf n c) .recv ∨ g = cell (mateOf n c) (.ready (ex n))) := by
  rcases add_pos_or h with h | h
  · exact ⟨(tallyAt_pos h).2, .inl (tallyAt_pos h).1⟩
  · split at h
    · exact absurd h (Nat.lt_irrefl 0)
    · exact ⟨(tallyAt_pos h).2, .inr (tallyAt_pos h).1⟩

theorem owedFrom_pos {c : Dev nD} {n : ℕ} {g : GSem nD τ sig} {i : ℕ} (h : 0 < owedFrom c n g i) :
    n ≤ i ∧ i < 40 ∧ (g = cell (mateOf i c) .recv ∨ g = cell (mateOf i c) (.ready (ex i))) := by
  unfold owedFrom at h
  rw [Finset.sum_apply, Finsupp.finset_sum_apply] at h
  obtain ⟨n', hn', hp⟩ := Finset.exists_ne_zero_of_sum_ne_zero (Nat.pos_iff_ne_zero.mp h)
  obtain ⟨rfl, hg⟩ := owedAt_pos (Nat.pos_of_ne_zero hp)
  rw [Finset.mem_Ico] at hn'
  exact ⟨hn'.1, hn'.2, hg⟩

/-- The indices of a semaphore's credit: the exchanges. -/
def idx (g : GSem nD τ sig) : Finset ℕ := if g.1.2 = .tc then Finset.range 40 else ∅

/-- The order of the waits: the pipeline's own and those for a block having left first, then the barrier, then exchange by exchange the
    acknowledgement and the block. -/
def lev (g : GSem nD τ sig) (n : ℕ) : ℕ := match roleOf g.2 with
  | some .bar => 1
  | some .recv => 3 * n + 3
  | some (.ready _) => 3 * n + 2
  | _ => 0

theorem idx_of_ne (g : GSem nD τ sig) (h : g.1.2 ≠ .tc) : idx g = ∅ := if_neg h
theorem mem_idx (c : Dev nD) (sm : SemLoc sig) {n : ℕ} (h : n < 40) : n ∈ idx ((c : Thread nD τ), sm) := by
  unfold idx; rw [if_pos rfl]; exact Finset.mem_range.mpr h

theorem lev_bar (c : Dev nD) (n : ℕ) : lev (cell c .bar) n = 1 := by unfold lev; rw [roleOf_roleSem]
theorem lev_send (c : Dev nD) (n : ℕ) : lev (cell c .send) n = 0 := by unfold lev; rw [roleOf_roleSem]
theorem lev_recv (c : Dev nD) (n : ℕ) : lev (cell c .recv) n = 3 * n + 3 := by unfold lev; rw [roleOf_roleSem]
theorem lev_ready (c : Dev nD) (e : Fin 4) (n : ℕ) : lev (cell c (.ready e)) n = 3 * n + 2 := by unfold lev; rw [roleOf_roleSem]

/-- A wait below everything still owed is allowed. -/
theorem mayWait_below (c : Dev nD) (sm : SemLoc sig) {n : ℕ} (hn : n < 40) (O : CellTallies nD τ sig ℕ)
    (h : ∀ g i, 0 < O g i → i ∈ idx g ∧ lev ((c : Thread nD τ), sm) n < lev g i) :
    (levAts idx lev : sProp 𝕄) ⊢ MayWait (c : Thread nD τ) sm n O :=
  MayOwe.of_cut (L := idx) (lev := lev) (lev ((c : Thread nD τ), sm) n)
    (fun p hp => by rw [Finset.mem_singleton.mp hp]; exact mem_idx c sm hn)
    (fun g i hg => (h g i hg).1)
    (fun p hp => by rw [Finset.mem_singleton.mp hp])
    (fun g i hg => (h g i hg).2)

/-- A wait whose level is below that of the acknowledgement of exchange `n` is allowed while what is owed begins at exchange `n`. -/
theorem mayWait_from (c : Dev nD) (sm : SemLoc sig) {n i : ℕ} (hi : i < 40) (h : lev ((c : Thread nD τ), sm) i < 3 * n + 2) :
    (levAts idx lev : sProp 𝕄) ⊢ MayWait (c : Thread nD τ) sm i (owedFrom c n) :=
  mayWait_below c sm hi _ fun g i' hg => by
    obtain ⟨h1, h2, rfl | rfl⟩ := owedFrom_pos hg
    · exact ⟨mem_idx _ _ h2, by rw [lev_recv]; omega⟩
    · exact ⟨mem_idx _ _ h2, by rw [lev_ready]; omega⟩

/-- The wait for an acknowledgement is allowed while the block of the same exchange and later exchanges are owed. -/
theorem mayWait_ready (c : Dev nD) {n : ℕ} (hn : n < 40) :
    (levAts idx lev : sProp 𝕄) ⊢ MayWait (c : Thread nD τ) (roleSem (.ready (ex n))) n (owedFrom c (n + 1) + tallyAt (cell (mateOf n c) .recv) n N) :=
  mayWait_below c _ hn _ fun g i' hg => by
    rcases add_pos_or hg with hg | hg
    · obtain ⟨h1, h2, rfl | rfl⟩ := owedFrom_pos hg
      · exact ⟨mem_idx _ _ h2, by rw [lev_recv, lev_ready]; omega⟩
      · exact ⟨mem_idx _ _ h2, by rw [lev_ready, lev_ready]; omega⟩
    · obtain ⟨rfl, rfl⟩ := tallyAt_pos hg
      exact ⟨mem_idx _ _ hn, by rw [lev_recv, lev_ready]; omega⟩

/-! ## What a device holds -/

variable (K : Dev nD × Role → ℕ)

/-- That every semaphore follows the schedule, and has reached its first round. -/
def records : sProp 𝕄 :=
  iprop((bigSep Finset.univ fun ck : Dev nD × Role => cellInv ER (sched X) (K ck) (cell ck.1 ck.2))
    ∗ bigSep Finset.univ fun ck : Dev nD × Role => reached ER (cell ck.1 ck.2) 0)

instance records_persistent : BI.Persistent (records X K) := by unfold records; infer_instance

theorem records_inv (c : Dev nD) (k : Role) : records X K ⊢ cellInv ER (sched X) (K (c, k)) (cell c k) := by
  unfold records; iintro ⟨H, -⟩
  have h : (bigSep Finset.univ fun ck : Dev nD × Role => (cellInv ER (sched X) (K ck) (cell ck.1 ck.2) : sProp 𝕄)) ⊢ cellInv ER (sched X) (K (c, k)) (cell c k) := bigSep_elim (Finset.mem_univ (c, k))
  iapply h; iexact H
theorem records_reached (c : Dev nD) (k : Role) : records X K ⊢ reached ER (cell c k) 0 := by
  unfold records; iintro ⟨-, H⟩
  have h : (bigSep Finset.univ fun ck : Dev nD × Role => (reached ER (cell ck.1 ck.2) 0 : sProp 𝕄)) ⊢ reached ER (cell c k) 0 := bigSep_elim (Finset.mem_univ (c, k))
  iapply h; iexact H

/-- The round in which exchange `n` acknowledges; the first exchange does not, and its unused place is out of the way. -/
def ackRound (n : ℕ) : ℕ := if n = 0 then 1000 else acks (ex n) n

/-- What device `c` uses up in exchange `n`: the right to pay for the block it sends (at both ends) and for its acknowledgement, and the
    credit for the block and for the acknowledgement it waits for. -/
def stepRes (c : Dev nD) (n : ℕ) : sProp 𝕄 :=
  iprop(dutyTok ER (cell (mateOf n c) .recv) n 0 ∗ dutyTok ER (cell c .send) n 0 ∗ dutyTok ER (cell (mateOf n c) (.ready (ex n))) (ackRound n) 0
    ∗ cred (tallyAt (cell c .recv) n N) ∗ cred (if n = 0 then 0 else tallyAt (cell c (.ready (ex n))) n 1))

/-- Device `c`'s place in the acknowledgements across bit `e` before exchange `n`, and that its partner is there too. -/
def ackAt (c : Dev nD) (n : ℕ) (e : Fin 4) : sProp 𝕄 :=
  iprop(atPos ER (cell c (.ready e)) (acks e n) ∅ 0 ∗ reached ER (cell (peer e c) (.ready e)) (acks e n))

/-- What device `c` holds before exchange `n`, its debts and its sending buffer aside. -/
def hold (c : Dev nD) (n : ℕ) : sProp 𝕄 :=
  iprop(records X K ∗ levAts idx lev
    ∗ atPos ER (cell c .send) n ∅ 0 ∗ reached ER (cell c .send) n ∗ atPos ER (cell c .recv) n ∅ 0 ∗ reached ER (cell c .recv) n
    ∗ (bigSep Finset.univ fun e => ackAt c n e) ∗ (bigSep (Finset.Ico n 40) fun n' => stepRes c n') ∗ ∃ f, bufPts c f)

/-- That, and its debts. -/
def between (c : Dev nD) (n : ℕ) : sProp 𝕄 := iprop(hold X K c n ∗ ∃ W, owes (c : Thread nD τ) (owedFrom c n) W)

/-- The four units device `c` owes its neighbours at the barrier. -/
def barOwed (c : Dev nD) (d : Fin 4) : CellTallies nD τ sig ℕ := tallyAt (cell (peer d c) .bar) 0 1

/-- What device `c` owes at the launch. -/
def owedStart (c : Dev nD) : CellTallies nD τ sig ℕ := owedFrom c 0 + barOwed c 3 + barOwed c 2 + barOwed c 1 + barOwed c 0

/-- What device `c` spends at the barrier. -/
def barRes (c : Dev nD) : sProp 𝕄 :=
  iprop(atPos ER (cell c .bar) 0 ∅ 0 ∗ cred (tallyAt (cell c .bar) 0 4)
    ∗ dutyTok ER (cell (peer 0 c) .bar) 0 0 ∗ dutyTok ER (cell (peer 1 c) .bar) 0 1 ∗ dutyTok ER (cell (peer 2 c) .bar) 0 2 ∗ dutyTok ER (cell (peer 3 c) .bar) 0 3)

end Cert.KernelIdeal

end
-- ==== Proof.Exchange.lean ====
/-
  The pieces of the body, each from what a device holds before it to what it holds after it: the block put in the sending buffer, the
  acknowledgement, the swap, and the barrier.
-/
module

public import proofs.«01_k».proof.Proof.Protocol

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Net

variable {F : FTy → Type} [FloatOps F]

local notation "𝕄" => MT nD τ sig ℕ (Elt F) ℕ UU ℕ

abbrev 𝒱₀ : Variants := Variants.none

variable (X : ℕ → Dev nD → FVec F Blk .f32) (K : Dev nD × Role → ℕ)

theorem zeros : (![0, 0] : Fin 2 → Nat) = fun _ => 0 := funext fun a => by fin_cases a <;> rfl

/-- All of a block's rows and columns. -/
abbrev whole : Rect S4096x256 := Rect.unit (s := S4096x256) ![0, 0] S4096x256.size Facts₀.inb_S4096x256_S4096x256_0_0

theorem res_peel (c : Dev nD) {n : ℕ} (h : n < 40) : (bigSep (Finset.Ico n 40) fun n' => (stepRes c n' : sProp 𝕄))
    = iprop(stepRes c n ∗ bigSep (Finset.Ico (n + 1) 40) fun n' => stepRes c n') := by
  rw [Ico_peel h, bigSep_insert (by simp)]; rfl
theorem acks_peel (c : Dev nD) (n : ℕ) (e : Fin 4) : (bigSep Finset.univ fun e' => (ackAt c n e' : sProp 𝕄))
    = iprop(ackAt c n e ∗ bigSep (Finset.univ.erase e) fun e' => ackAt c n e') := by
  rw [bigSep_univ_at _ e]

/-- What device `c` holds once it may send the block of exchange `n`. -/
def midway (c : Dev nD) (n : ℕ) : sProp 𝕄 :=
  iprop(records X K ∗ levAts idx lev
    ∗ atPos ER (cell c .send) n ∅ 0 ∗ reached ER (cell c .send) n ∗ atPos ER (cell c .recv) n ∅ 0
    ∗ atPos ER (cell c (.ready (ex n))) (acks (ex n) (n + 1)) ∅ 0 ∗ reached ER (cell c (.ready (ex n))) (acks (ex n) (n + 1))
    ∗ (bigSep (Finset.univ.erase (ex n)) fun e => ackAt c n e)
    ∗ dutyTok ER (cell (mateOf n c) .recv) n 0 ∗ dutyTok ER (cell c .send) n 0 ∗ cred (tallyAt (cell c .recv) n N)
    ∗ (bigSep (Finset.Ico (n + 1) 40) fun n' => stepRes c n')
    ∗ (∃ W, owes (c : Thread nD τ) (owedFrom c (n + 1) + tallyAt (cell (mateOf n c) .recv) n N) W)
    ∗ reached ER (cell (mateOf n c) .recv) n ∗ ∃ f, bufPts (mateOf n c) f)

theorem write_snd (f w : (cc0_scratch0 : Ref sig .tc).ty.Contents (Elt F)) :
    ((sM : Memref sig .tc .vmem S4096x256 .bf16).access whole : View sig .tc _ _ _).write (Elt F) f w Finset.univ = w :=
  Memref.write_access_unit_zero_univ (Elt F) cc0_scratch0 zeros _ f w

/-- The block put in the sending buffer. -/
theorem wp_place (c : Dev nD) (f) (x : FVec F Blk .f32) (Q : PUnit → sProp 𝕄) :
    sndPts c f ⊢ iprop((sndPts c (packed x) -∗ Q ⟨⟩)
      -∗ wp frame (wpE (defs₀ (F := F)) 𝒱₀ (c : Thread nD τ) none) Set.univ (place sM (Memref.isWhole_whole _) x) Q) := by
  simp only [place, Prog.lift, Prog.bind_op, Prog.bind_ret]
  unfold sndPts
  iintro H Hk
  iapply (wp_load 𝒱₀ (c : Thread nD τ) none Set.univ (m := sM) (by rw [View.set_whole]; exact Finset.subset_univ _)) $$ H; iintro H
  iapply (wp_store 𝒱₀ (c : Thread nD τ) none Set.univ (m := sM) (r := whole) (Mk := Finset.univ) (by rw [View.set_whole]; exact Finset.subset_univ _)) $$ H; iintro H
  rw [write_snd, wp_ret]; imodintro
  iapply Hk; iexact H

theorem dut_bar : dut 0 .bar = Finset.univ := by unfold dut; rw [if_pos rfl]
theorem dut_send {n : ℕ} (h : n < 40) : dut n .send = {0} := by unfold dut; rw [if_pos h]
theorem dut_recv {n : ℕ} (h : n < 40) : dut n .recv = {0} := by unfold dut; rw [if_pos h]
theorem dut_ready {n : ℕ} (h1 : 1 ≤ n) (h : n < 40) : dut (acks (ex n) n) (.ready (ex n)) = {0} := by
  show (if acks (ex n) n < acks (ex n) 40 then {0} else ∅ : Finset (Fin 4)) = {0}; rw [if_pos (acks_lt h1 rfl h)]

theorem expect_send (c : Dev nD) {n : ℕ} (h : n < 40) : (sched X).expect (cell c .send) n = N := by
  rw [expect_cell, dut_send h, Finset.card_singleton, Nat.one_mul]; rfl
theorem expect_recv (c : Dev nD) {n : ℕ} (h : n < 40) : (sched X).expect (cell c .recv) n = N := by
  rw [expect_cell, dut_recv h, Finset.card_singleton, Nat.one_mul]; rfl

/-- The acknowledgement before exchange `n`: the own receiving buffer is handed to the partner, and the partner's comes back. -/
theorem wp_credit (c : Dev nD) (n : ℕ) (h1 : 1 ≤ n) (h40 : n < 40) (Q : PUnit → sProp 𝕄) :
    between X K c n ⊢ iprop((midway X K c n -∗ Q ⟨⟩)
      -∗ wp frame (wpE (defs₀ (F := F)) 𝒱₀ (c : Thread nD τ) none) Set.univ (credit (mateOf n c) (readySem cc0_scratch4 (ex n).val)) Q) := by
  simp only [credit, semSignalWord, semWaitWord, Prog.lift, Prog.bind_op, Prog.bind_ret]
  unfold between hold
  have h0 : n ≠ 0 := by omega
  rw [res_peel c h40, owedFrom_peel c h40, acks_peel c n (ex n)]
  unfold stepRes owedAt ackRound ackAt
  rw [if_neg h0, if_neg h0, if_neg h0]
  iintro ⟨⟨#HR, #Hlev, HaS, #HrS, HaV, #HrV, ⟨⟨HaA, #HrA⟩, Hacks⟩, ⟨⟨HtV, HtS, HtA, HcV, HcA⟩, Hres⟩, ⟨%f, Hb⟩⟩, ⟨%W, HO⟩⟩ Hk
  iapply (Rounds.wp_signal 𝒱₀ ER (sched X) (c : Thread nD τ) none (dst := (mateOf n c : Thread nD τ)) (κ := K (mateOf n c, .ready (ex n)))
      (r := acks (ex n) n) (d := 0)
      (show 0 ∈ (sched X).duties (cell (mateOf n c) (.ready (ex n))) _ by rw [duties_cell, dut_ready h1 h40]; exact Finset.mem_singleton_self _)
      ((amount_cell X (mateOf n c) (.ready (ex n)) _ 0).trans (show 1 = _ by decide)) n
      (O₀ := tallyAt (cell (mateOf n c) .recv) n N + tallyAt (cell (mateOf n c) (.ready (ex n))) n 1 + owedFrom c (n + 1))
      (owedFrom c (n + 1) + tallyAt (cell (mateOf n c) .recv) n N) (by rw [add_comm _ (owedFrom c (n + 1)), ← add_assoc]; rfl))
    $$ [HO HtA Hb]
  · isplitr; · iapply (records_inv X K (mateOf n c) (.ready (ex n))); iexact HR
    isplitl [HO]; · iexact HO
    isplitl [HtA]; · iexact HtA
    isplitl [Hb]
    · rw [show (sched X).payload ((mateOf n c : Thread nD τ), SemLoc.reg (readySem cc0_scratch4 (ex n).val)) (acks (ex n) n) 0
          = pay X (mateOf n c) (acks (ex n) n) 0 (.ready (ex n)) from payload_cell X (mateOf n c) (.ready (ex n)) _ 0]
      unfold pay
      iexists n
      rw [peer_peer]
      isplitr; · ipureintro; exact ⟨h1, h40, rfl, rfl⟩
      isplitr; · iexact HrV
      iexists f; iexact Hb
    · iexact HrA
  iintro HO
  iapply (Rounds.wp_wait_rest_token 𝒱₀ ER (sched X) (c : Thread nD τ) none (κ := K (c, .ready (ex n)))
      (wpE_semWait_eq 𝒱₀ (c : Thread nD τ) none Set.univ) (Set.mem_univ _) n (O := owedFrom c (n + 1) + tallyAt (cell (mateOf n c) .recv) n N)
      (W := W) (R := acks (ex n) n) (m := 0) (T := ∅)
      (show 0 + _ = (sched X).expect (cell c (.ready (ex n))) _ by rw [expect_cell, dut_ready h1 h40]; show 0 + _ = 1 * 1; decide)) $$ [HcA HO HaA]
  · isplitr; · iapply (records_inv X K c (.ready (ex n))); iexact HR
    isplitl [HcA]; · iexact HcA
    isplitl [HO]; · iexact HO
    isplitr; · iapply (mayWait_ready c h40); iexact Hlev
    iexact HaA
  iintro ⟨HO, HaA, #HrA', Hpay⟩
  ihave Hp := (rest_single X ((c : Thread nD τ), .reg (readySem cc0_scratch4 (ex n).val)) (c := c) (k := .ready (ex n)) rfl (dut_ready h1 h40)) $$ Hpay
  unfold pay
  icases Hp with ⟨%n', %hn', #HrV', Hb⟩
  obtain rfl : n' = n := acks_inj hn'.1 hn'.2.2.1 h1 rfl hn'.2.2.2
  rw [wp_ret]; imodintro
  iapply Hk
  unfold midway ackAt
  rw [acks_succ h1 rfl]
  isplitr; · iexact HR
  isplitr; · iexact Hlev
  isplitl [HaS]; · iexact HaS
  isplitr; · iexact HrS
  isplitl [HaV]; · iexact HaV
  isplitl [HaA]; · iexact HaA
  isplitr; · iexact HrA'
  isplitl [Hacks]; · iexact Hacks
  isplitl [HtV]; · iexact HtV
  isplitl [HtS]; · iexact HtS
  isplitl [HcV]; · iexact HcV
  isplitl [Hres]; · iexact Hres
  isplitl [HO]; · iexists _; iexact HO
  isplitr; · iexact HrV'
  iexact Hb

/-- The block received, as the copy leaves it. -/
theorem landed (c : Dev nD) (fd : Buf (Elt F) ((bM : Memref sig .tc .vmem S4096x256 .bf16).view.loc (c : Thread nD τ)))
    (fs : (cc0_scratch0 : Ref sig .tc).ty.Contents (Elt F)) :
    (bM : Memref sig .tc .vmem S4096x256 .bf16).view.write (Elt F) fd ((sM : Memref sig .tc .vmem S4096x256 .bf16).view.read (Elt F) fs) Finset.univ = fs := by
  show (View.whole cc0_scratch1).write (Elt F) fd ((View.whole cc0_scratch0).read (Elt F) fs) Finset.univ = fs
  rw [View.read_whole]
  exact View.write_whole_univ _ _ _

theorem read_buf (f : (cc0_scratch1 : Ref sig .tc).ty.Contents (Elt F)) :
    (bM : Memref sig .tc .vmem S4096x256 .bf16).view.readAt (Elt F) whole.toLoadRect f = f :=
  Memref.readAt_unit_zero (Elt F) cc0_scratch1 zeros _ f

/-- The copy of exchange `n`: the sending buffer and the partner's receiving buffer go into it, with what the receiver is told. -/
theorem wp_copy (c : Dev nD) {n : ℕ} (h40 : n < 40) {hsc : (bM : Memref sig (Dev.tc (mateOf n c) : Thread nD τ).2.kind .vmem S4096x256 .bf16).view.ref.isScScratch = false}
    {hsrc : (sM : Memref sig .tc .vmem S4096x256 .bf16).view.WordExact} {hdst : (bM : Memref sig .tc .vmem S4096x256 .bf16).view.WordExact}
    {hsem : DmaTarget.Typed .vmem (.dma cc0_scratch3.sem) (.remote (Dev.tc (mateOf n c) : Thread nD τ) (bM : Memref sig .tc .vmem S4096x256 .bf16) (.dma cc0_scratch2.sem) hsc)}
    {α : Type} {Q : α → sProp 𝕄} {k : PUnit → Prog (TpuEff nD τ sig (Elt F) Λ₀ .tc) α} (f) (W : Waits sig ℕ) :
    iprop(cellInv ER (sched X) (K (c, .send)) (cell c .send) ∗ cellInv ER (sched X) (K (mateOf n c, .recv)) (cell (mateOf n c) .recv)
        ∗ sndPts c (sent X n c) ∗ (bufPts (mateOf n c) f ∗ reached ER (cell c (.ready (ex n))) (acks (ex n) (n + 1)))
        ∗ owes (c : Thread nD τ) (owedFrom c (n + 1) + tallyAt (cell (mateOf n c) .recv) n N) W
        ∗ dutyTok ER (cell c .send) n 0 ∗ reached ER (cell c .send) n
        ∗ dutyTok ER (cell (mateOf n c) .recv) n 0 ∗ reached ER (cell (mateOf n c) .recv) n)
      ⊢ iprop(((cred (tallyAt (cell c .send) n N) ∗ owes (c : Thread nD τ) (owedFrom c (n + 1)) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sM (.remote (Dev.tc (mateOf n c) : Thread nD τ) bM (.dma cc0_scratch2.sem) hsc) (.dma cc0_scratch3.sem) hsrc hdst hsem) k) Q) := by
  unfold sndPts bufPts
  exact Rounds.wp_send_pointsTo_with 𝒱₀ ER (sched X) (c : Thread nD τ) none
    (κ₁ := K (c, .send)) (κ₂ := K (mateOf n c, .recv))
    (r₁ := n) (r₂ := n) (d₁ := 0) (d₂ := 0)
    (show 0 ∈ (sched X).duties (cell c .send) n by rw [duties_cell, dut_send h40]; exact Finset.mem_singleton_self _)
    (show 0 ∈ (sched X).duties (cell (mateOf n c) .recv) n by rw [duties_cell, dut_recv h40]; exact Finset.mem_singleton_self _)
    n n N rfl (amount_cell X c .send n 0) (amount_cell X (mateOf n c) .recv n 0) (owedFrom c (n + 1)) rfl (W := W)
    (by
      rw [payload_cell]
      exact BI.Entails.refl _)
    (by
      rw [payload_cell, pay_recv, mateOf_mateOf, landed]
      exact BI.Entails.refl _)

/-- The swap of exchange `n`: what the partner sent is read, and the device is ready for the next exchange. -/
theorem wp_swap (c : Dev nD) (n : ℕ) (h40 : n < 40) (Q : Vec F S4096x256 .bf16 → sProp 𝕄) :
    iprop(midway X K c n ∗ sndPts c (sent X n c)) ⊢ iprop(((between X K c (n + 1) ∗ sndPts c (sent X n c)) -∗ Q (sent X n (mateOf n c)))
      -∗ wp frame (wpE (defs₀ (F := F)) 𝒱₀ (c : Thread nD τ) none) Set.univ
          (swap sM (Memref.isWhole_whole _) bM (Memref.isWhole_whole _) cc0_scratch2 cc0_scratch3 (mateOf n c)) Q) := by
  simp only [swap, Prog.lift, Prog.bind_op, Prog.bind_ret]
  unfold midway
  iintro ⟨⟨#HR, #Hlev, HaS, #HrS, HaV, HaA, #HrA, Hacks, HtV, HtS, HcV, Hres, ⟨%W, HO⟩, #HrV, ⟨%f, Hb⟩⟩, Hs⟩ Hk
  iapply (wp_copy X K c h40 f W) $$ [Hs Hb HO HtS HtV]
  · isplitr; · iapply (records_inv X K c .send); iexact HR
    isplitr; · iapply (records_inv X K (mateOf n c) .recv); iexact HR
    isplitl [Hs]; · iexact Hs
    isplitl [Hb]
    · isplitl [Hb]; · iexact Hb
      iexact HrA
    isplitl [HO]; · iexact HO
    isplitl [HtS]; · iexact HtS
    isplitr; · iexact HrS
    isplitl [HtV]; · iexact HtV
    iexact HrV
  iintro ⟨HcS, HO⟩
  iapply (Rounds.wp_wait_rest_token 𝒱₀ ER (sched X) (c : Thread nD τ) none (κ := K (c, .send))
      (wpE_waitDma2_eq 𝒱₀ (c : Thread nD τ) none Set.univ) (Set.mem_univ _) n (O := owedFrom c (n + 1)) (W := W) (R := n) (m := 0) (T := ∅)
      (by rw [Nat.zero_add]; exact (expect_send X c h40).symm)) $$ [HcS HO HaS]
  · isplitr; · iapply (records_inv X K c .send); iexact HR
    isplitl [HcS]; · iexact HcS
    isplitl [HO]; · iexact HO
    isplitr; · iapply (mayWait_from c (roleSem .send) h40 (n := n + 1) (by rw [lev_send]; omega)); iexact Hlev
    iexact HaS
  iintro ⟨HO, HaS, #HrS', Hpay⟩
  ihave Hs := (rest_single X ((c : Thread nD τ), .dma cc0_scratch2.sem) (c := c) (k := .send) rfl (dut_send h40)) $$ Hpay
  iapply (Rounds.wp_wait_rest_token 𝒱₀ ER (sched X) (c : Thread nD τ) none (κ := K (c, .recv))
      (wpE_waitDma2_eq 𝒱₀ (c : Thread nD τ) none Set.univ) (Set.mem_univ _) n (O := owedFrom c (n + 1)) (W := insert (SemLoc.dma cc0_scratch2.sem, n) W) (R := n) (m := 0) (T := ∅)
      (by rw [Nat.zero_add]; exact (expect_recv X c h40).symm)) $$ [HcV HO HaV]
  · isplitr; · iapply (records_inv X K c .recv); iexact HR
    isplitl [HcV]; · iexact HcV
    isplitl [HO]; · iexact HO
    isplitr; · iapply (mayWait_from c (roleSem .recv) h40 (n := n + 1) (by rw [lev_recv]; omega)); iexact Hlev
    iexact HaV
  iintro ⟨HO, HaV, #HrV', Hpay⟩
  ihave Hp := (rest_single X ((c : Thread nD τ), .dma cc0_scratch3.sem) (c := c) (k := .recv) rfl (dut_recv h40)) $$ Hpay
  unfold pay
  icases Hp with ⟨Hb, #HrM⟩
  unfold bufPts
  iapply (wp_load 𝒱₀ (c : Thread nD τ) none Set.univ (m := bM) (by rw [View.set_whole]; exact Finset.subset_univ _)) $$ Hb; iintro Hb
  rw [read_buf, wp_ret]; imodintro
  iapply Hk
  isplitr [Hs]
  · unfold between hold
    rw [acks_peel c (n + 1) (ex n)]
    isplitr [HO]
    · isplitr; · iexact HR
      isplitr; · iexact Hlev
      isplitl [HaS]; · iexact HaS
      isplitr; · iexact HrS'
      isplitl [HaV]; · iexact HaV
      isplitr; · iexact HrV'
      isplitl [HaA Hacks]
      · isplitl [HaA]
        · unfold ackAt
          isplitl [HaA]; · iexact HaA
          iexact HrM
        · iapply (Entails.of_eq (bigSep_congr (s := Finset.univ.erase (ex n)) fun e he =>
            show ackAt c n e = ackAt c (n + 1) e by unfold ackAt; rw [acks_succ_ne (Finset.ne_of_mem_erase he).symm]))
          iexact Hacks
      isplitl [Hres]; · iexact Hres
      iexists _; unfold bufPts; iexact Hb
    · iexists _; iexact HO
  · iexact Hs

/-- One signal of the barrier: to the neighbour across bit `d`, with what the schedule hands over there. -/
theorem wp_tell (c : Dev nD) (d : Fin 4) {α : Type} {Q : α → sProp 𝕄} {k : PUnit → Prog (TpuEff nD τ sig (Elt F) Λ₀ .tc) α} (O : CellTallies nD τ sig ℕ) (W : Waits sig ℕ) :
    iprop(records X K ∗ owes (c : Thread nD τ) (O + barOwed c d) W ∗ dutyTok ER (cell (peer d c) .bar) 0 d ∗ pay X (peer d c) 0 d .bar)
      ⊢ iprop((owes (c : Thread nD τ) O W -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (peer d c : Thread nD τ) barSem (1#32).toNat) k) Q) := by
  iintro ⟨#HR, HO, Ht, Hp⟩ Hk
  iapply (Rounds.wp_signal 𝒱₀ ER (sched X) (c : Thread nD τ) none (dst := (peer d c : Thread nD τ)) (κ := K (peer d c, .bar))
      (r := 0) (d := d)
      (show d ∈ (sched X).duties (cell (peer d c) .bar) 0 by rw [duties_cell, dut_bar]; exact Finset.mem_univ _)
      ((amount_cell X (peer d c) .bar 0 d).trans (show 1 = _ by decide)) 0 (O₀ := O + barOwed c d) O rfl) $$ [HO Ht Hp]
  · isplitr; · iapply (records_inv X K (peer d c) .bar); iexact HR
    isplitl [HO]; · iexact HO
    isplitl [Ht]; · iexact Ht
    isplitl [Hp]
    · rw [show (sched X).payload ((peer d c : Thread nD τ), SemLoc.reg barSem) 0 d = pay X (peer d c) 0 d .bar from payload_cell X (peer d c) .bar 0 d]
      iexact Hp
    · iapply (records_reached X K (peer d c) .bar); iexact HR
  iexact Hk

theorem ex_zero : ex 0 = 0 := rfl

/-- The barrier: the own receiving buffer is handed to the first partner, and the first partner's comes back. -/
theorem wp_barrier (c : Dev nD) (Q : PUnit → sProp 𝕄) :
    iprop(hold X K c 0 ∗ barRes c ∗ ∃ W, owes (c : Thread nD τ) (owedStart c) W) ⊢ iprop(((midway X K c 0 ∗ atPos ER (cell c .bar) 1 ∅ 0) -∗ Q ⟨⟩)
      -∗ wp frame (wpE (defs₀ (F := F)) 𝒱₀ (c : Thread nD τ) none) Set.univ (barrierPart (peer 0 c) (peer 1 c) (peer 2 c) (peer 3 c)) Q) := by
  simp only [barrierPart, semSignalWord, semWaitWord, Prog.lift, Prog.bind_op, Prog.bind_ret]
  unfold hold barRes owedStart
  rw [res_peel c (by decide : 0 < 40), acks_peel c 0 (ex 0)]
  unfold stepRes
  iintro ⟨⟨#HR, #Hlev, HaS, #HrS, HaV, #HrV, ⟨HaA, Hacks⟩, ⟨⟨HtV, HtS, -, HcV, -⟩, Hres⟩, ⟨%f, Hb⟩⟩, ⟨HaB, HcB, Ht0, Ht1, Ht2, Ht3⟩, ⟨%W, HO⟩⟩ Hk
  iapply (wp_tell X K c 0 _ W) $$ [HO Ht0 Hb]
  · isplitr; · iexact HR
    isplitl [HO]; · iexact HO
    isplitl [Ht0]; · iexact Ht0
    rw [pay_bar, peer_peer]; iexists f; iexact Hb
  iintro HO
  iapply (wp_tell X K c 1 _ W) $$ [HO Ht1]
  · isplitr; · iexact HR
    isplitl [HO]; · iexact HO
    isplitl [Ht1]; · iexact Ht1
    rw [pay_bar_ne X _ _ (by decide)]; iempintro
  iintro HO
  iapply (wp_tell X K c 2 _ W) $$ [HO Ht2]
  · isplitr; · iexact HR
    isplitl [HO]; · iexact HO
    isplitl [Ht2]; · iexact Ht2
    rw [pay_bar_ne X _ _ (by decide)]; iempintro
  iintro HO
  iapply (wp_tell X K c 3 _ W) $$ [HO Ht3]
  · isplitr; · iexact HR
    isplitl [HO]; · iexact HO
    isplitl [Ht3]; · iexact Ht3
    rw [pay_bar_ne X _ _ (by decide)]; iempintro
  iintro HO
  iapply (Rounds.wp_wait_rest_token 𝒱₀ ER (sched X) (c : Thread nD τ) none (κ := K (c, .bar))
      (wpE_semWait_eq 𝒱₀ (c : Thread nD τ) none Set.univ) (Set.mem_univ _) 0 (O := owedFrom c 0) (W := W) (R := 0) (m := 0) (T := ∅)
      (show 0 + _ = (sched X).expect (cell c .bar) 0 by rw [expect_cell, dut_bar]; decide)) $$ [HcB HO HaB]
  · isplitr; · iapply (records_inv X K c .bar); iexact HR
    isplitl [HcB]; · iexact HcB
    isplitl [HO]; · iexact HO
    isplitr; · iapply (mayWait_from c (roleSem .bar) (i := 0) (by decide) (n := 0) (by rw [lev_bar]; decide)); iexact Hlev
    iexact HaB
  iintro ⟨HO, HaB, -, Hpay⟩
  ihave Hb := (rest_bar X ((c : Thread nD τ), .reg barSem) (c := c) rfl) $$ Hpay
  rw [wp_ret]; imodintro
  iapply Hk
  isplitr [HaB]
  · unfold midway ackAt
    icases HaA with ⟨HaA, -⟩
    isplitr; · iexact HR
    isplitr; · iexact Hlev
    isplitl [HaS]; · iexact HaS
    isplitr; · iexact HrS
    isplitl [HaV]; · iexact HaV
    isplitl [HaA]; · iexact HaA
    isplitr; · iapply (records_reached X K c (.ready (ex 0))); iexact HR
    isplitl [Hacks]; · iexact Hacks
    isplitl [HtV]; · iexact HtV
    isplitl [HtS]; · iexact HtS
    isplitl [HcV]; · iexact HcV
    isplitl [Hres]; · iexact Hres
    isplitl [HO]
    · iexists _
      rw [show owedFrom c 0 = owedFrom c (0 + 1) + tallyAt (cell (mateOf 0 c) .recv) 0 N by
        rw [owedFrom_peel c (by decide : 0 < 40), add_comm]; unfold owedAt; rw [if_pos rfl, add_zero]]
      iexact HO
    isplitr; · iapply (records_reached X K (mateOf 0 c) .recv); iexact HR
    iexact Hb
  · iexact HaB

end Cert.KernelIdeal

end
-- ==== Proof.Work.lean ====
/-
  One grid point's work on one device: what it loads, its ten exchanges, what it stores.
-/
module

public import proofs.«01_k».proof.Proof.Exchange

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Net

variable {F : FTy → Type} [FloatOps F]

local notation "𝕄" => MT nD τ sig ℕ (Elt F) ℕ UU ℕ

variable (X : ℕ → Dev nD → FVec F Blk .f32) (K : Dev nD × Role → ℕ)

theorem ex_at (t : ℕ) {s : ℕ} (h : s < 10) : ex (10 * t + s) = ⟨exBit s, exBit_lt s⟩ := by
  unfold ex; refine Fin.ext ?_; show exBit ((10 * t + s) % 10) = exBit s; rw [show (10 * t + s) % 10 = s by omega]

theorem sent_at (t : ℕ) {s : ℕ} (h : s < 10) (c : Dev nD) : sent X (10 * t + s) c = packed (before (X t) s c) := by
  unfold sent; rw [show (10 * t + s) % 10 = s by omega, show (10 * t + s) / 10 = t by omega]

/-- What device `c` holds before exchange `n` within a grid point, `R` being whatever else it keeps. -/
def along (R : sProp 𝕄) (c : Dev nD) (n : ℕ) : sProp 𝕄 := iprop(between X K c n ∗ R ∗ ∃ f, sndPts c f)

/-- An exchange, `pre` taking the device from `P` to where it may send. -/
theorem wp_exchange (c : Dev nD) {t s : ℕ} (ht : t < 4) (hs : s < 10) {dst : Dev nD} (hd : dst = peer ⟨exBit s, exBit_lt s⟩ c)
    (P R : sProp 𝕄) (pre : Prog (TpuEff nD τ sig (Elt F) Λ₀ .tc) PUnit)
    (hpre : ∀ Q : PUnit → sProp 𝕄, P ⊢ iprop(((midway X K c (10 * t + s) ∗ R) -∗ Q ⟨⟩) -∗ wp frame (wpE (defs₀ (F := F)) 𝒱₀ (c : Thread nD τ) none) Set.univ pre Q))
    (Q : Vec F S4096x256 .bf16 → sProp 𝕄) :
    iprop(P ∗ ∃ f, sndPts c f) ⊢ iprop((along X K R c (10 * t + (s + 1)) -∗ Q (packed (before (X t) s (peer ⟨exBit s, exBit_lt s⟩ c))))
      -∗ wp frame (wpE (defs₀ (F := F)) 𝒱₀ (c : Thread nD τ) none) Set.univ
          (exchange sM (Memref.isWhole_whole _) bM (Memref.isWhole_whole _) cc0_scratch2 cc0_scratch3 dst pre (before (X t) s c)) Q) := by
  subst hd
  have hm : mateOf (10 * t + s) c = peer ⟨exBit s, exBit_lt s⟩ c := by rw [mateOf, ex_at t hs]
  unfold exchange
  simp only [wp_bind]
  iintro ⟨HP, ⟨%f, Hs⟩⟩ Hk
  iapply (wp_place c _ _) $$ Hs; iintro Hs
  iapply (hpre _) $$ HP; iintro ⟨HM, HR⟩
  rw [← sent_at X t hs, ← hm, ← sent_at X t hs]
  iapply (wp_swap X K c (10 * t + s) (by omega)) $$ [HM Hs]
  · isplitl [HM] <;> iassumption
  iintro ⟨HB, Hs⟩
  iapply Hk
  unfold along
  isplitl [HB]; · iexact HB
  isplitl [HR]; · iexact HR
  iexists _; iexact Hs

/-- An exchange with an acknowledgement before it. -/
theorem wp_next (R : sProp 𝕄) (c : Dev nD) {t s : ℕ} (ht : t < 4) (hs : s < 10) (h0 : 10 * t + s ≠ 0) {dst ack : Dev nD}
    (hd : dst = peer ⟨exBit s, exBit_lt s⟩ c) (ha : ack = peer ⟨exBit s, exBit_lt s⟩ c) {e : ℕ} (he : e = exBit s) (Q : Vec F S4096x256 .bf16 → sProp 𝕄) :
    along X K R c (10 * t + s) ⊢ iprop((along X K R c (10 * t + (s + 1)) -∗ Q (packed (before (X t) s (peer ⟨exBit s, exBit_lt s⟩ c))))
      -∗ wp frame (wpE (defs₀ (F := F)) 𝒱₀ (c : Thread nD τ) none) Set.univ
          (exchange sM (Memref.isWhole_whole _) bM (Memref.isWhole_whole _) cc0_scratch2 cc0_scratch3 dst (credit ack (readySem cc0_scratch4 e)) (before (X t) s c)) Q) := by
  subst ha he
  have hm : mateOf (10 * t + s) c = peer ⟨exBit s, exBit_lt s⟩ c := by rw [mateOf, ex_at t hs]
  unfold along
  iintro ⟨HB, HR, Hs⟩ Hk
  iapply (wp_exchange X K c ht hs hd iprop(between X K c (10 * t + s) ∗ R) R _ (fun Q => by
    iintro ⟨HB, HR⟩ Hk
    rw [← hm, show exBit s = (ex (10 * t + s)).val by rw [ex_at t hs]]
    iapply (wp_credit X K c (10 * t + s) (by omega) (by omega)) $$ HB; iintro HM
    iapply Hk
    isplitl [HM] <;> iassumption) Q) $$ [HB HR Hs]
  · isplitr [Hs]
    · isplitl [HB] <;> iassumption
    · iexact Hs
  unfold along
  iexact Hk

/-- A grid point's work: from `P` (before the barrier, or between two exchanges) to between two exchanges, ten exchanges on; the block `X t c`
    is loaded, and stored as the ten exchanges leave it. -/
theorem wp_work (c : Dev nD) {t : ℕ} (ht : t < 4) (arg1 arg2 : Memref sig .tc .vmem S4096x256 .f32)
    (hread : ∀ g, arg1.view.readAt (Elt F) whole.toLoadRect g = arg1.view.read (Elt F) g)
    (hwrite : ∀ g w, arg2.view.read (Elt F) ((arg2.access whole : View sig .tc _ _ _).write (Elt F) g w Finset.univ) = w)
    (hset1 : arg1.view.set = Finset.univ) (hset2 : arg2.view.set = Finset.univ)
    (P₀ P R : sProp 𝕄) (start first : Prog (TpuEff nD τ sig (Elt F) Λ₀ .tc) PUnit)
    (hstart : ∀ Q : PUnit → sProp 𝕄, P₀ ⊢ iprop((P -∗ Q ⟨⟩) -∗ wp frame (wpE (defs₀ (F := F)) 𝒱₀ (c : Thread nD τ) none) Set.univ start Q))
    (hfirst : ∀ Q : PUnit → sProp 𝕄, P ⊢ iprop(((midway X K c (10 * t + 0) ∗ R) -∗ Q ⟨⟩) -∗ wp frame (wpE (defs₀ (F := F)) 𝒱₀ (c : Thread nD τ) none) Set.univ first Q))
    (v2 : Vec F S4096x256 .f32) (Q : PUnit → sProp 𝕄) :
    iprop(P₀ ∗ (∃ f, sndPts c f) ∗ owns (c : Thread nD τ) arg1 fullShare (X t c) ∗ owns (c : Thread nD τ) arg2 fullShare v2)
      ⊢ iprop(((along X K R c (10 * t + 10) ∗ owns (c : Thread nD τ) arg1 fullShare (X t c) ∗ owns (c : Thread nD τ) arg2 fullShare (before (X t) 10 c)) -∗ Q ⟨⟩)
        -∗ wp frame (wpE (defs₀ (F := F)) 𝒱₀ (c : Thread nD τ) none) Set.univ
          (bodyOf arg1 arg2 sM (Memref.isWhole_whole _) bM (Memref.isWhole_whole _) cc0_scratch2 cc0_scratch3 cc0_scratch4 start first (dstDev c) (ackDev c) c) Q) := by
  unfold bodyOf
  simp only [wp_bind, Prog.lift]
  unfold owns
  iintro ⟨HP, Hs, ⟨%g1, %hg1, H1⟩, ⟨%g2, %hg2, H2⟩⟩ Hk
  iapply (hstart _) $$ HP; iintro HP
  iapply (wp_load 𝒱₀ (c : Thread nD τ) none Set.univ (m := arg1) (by rw [hset1]; exact Finset.subset_univ _)) $$ H1; iintro H1
  rw [wp_ret]; imodintro
  rw [hread, hg1, show shapeCast S4096x256 (X t c) Facts₀.shapeCasts_S4096x256_S4096x256 = X t c from funext fun i => congrArg (X t c) (Shape.reshapeEquiv_self _ i)]
  iapply (wp_exchange X K c ht (s := 0) (by decide) (dstDev_eq c 0) P R _ hfirst) $$ [HP Hs]
  · isplitl [HP] <;> iassumption
  iintro HA
  iapply (wp_next X K R c ht (s := 1) (by decide) (by omega) (dstDev_eq c 1) (ackDev_eq c 1 (by decide)) rfl) $$ HA; iintro HA
  iapply (wp_next X K R c ht (s := 2) (by decide) (by omega) (dstDev_eq c 2) (ackDev_eq c 2 (by decide)) rfl) $$ HA; iintro HA
  iapply (wp_next X K R c ht (s := 3) (by decide) (by omega) (dstDev_eq c 3) (ackDev_eq c 3 (by decide)) rfl) $$ HA; iintro HA
  iapply (wp_next X K R c ht (s := 4) (by decide) (by omega) (dstDev_eq c 4) (ackDev_eq c 4 (by decide)) rfl) $$ HA; iintro HA
  iapply (wp_next X K R c ht (s := 5) (by decide) (by omega) (dstDev_eq c 5) (ackDev_eq c 5 (by decide)) rfl) $$ HA; iintro HA
  iapply (wp_next X K R c ht (s := 6) (by decide) (by omega) (dstDev_eq c 6) (ackDev_eq c 6 (by decide)) rfl) $$ HA; iintro HA
  iapply (wp_next X K R c ht (s := 7) (by decide) (by omega) (dstDev_eq c 7) (ackDev_eq c 7 (by decide)) rfl) $$ HA; iintro HA
  iapply (wp_next X K R c ht (s := 8) (by decide) (by omega) (dstDev_eq c 8) (ackDev_eq c 8 (by decide)) rfl) $$ HA; iintro HA
  iapply (wp_next X K R c ht (s := 9) (by decide) (by omega) (dstDev_eq c 9) (ackDev_eq c 9 (by decide)) rfl) $$ HA; iintro HA
  iapply (wp_load 𝒱₀ (c : Thread nD τ) none Set.univ (m := arg2) (by rw [hset2]; exact Finset.subset_univ _)) $$ H2; iintro H2
  rw [wp_ret]; imodintro
  iapply (wp_store 𝒱₀ (c : Thread nD τ) none Set.univ (m := arg2) (r := whole) (Mk := Finset.univ) (by rw [hset2]; exact Finset.subset_univ _)) $$ H2; iintro H2
  rw [wp_ret]; imodintro
  rw [Prog.pure_eq_ret, wp_ret]; imodintro
  iapply Hk
  isplitl [HA]; · iexact HA
  isplitl [H1]
  · iexists g1; isplitr; · (ipureintro; exact hg1)
    iexact H1
  · iexists ((arg2.access whole : View sig .tc _ _ _).write (Elt F) g2 (before (X t) 10 c) Finset.univ)
    isplitr [H2]; · (ipureintro; exact hwrite g2 _)
    iexact H2

end Cert.KernelIdeal

end
-- ==== Proof.Points.lean ====
/-
  The body at each of the four grid points, as the pipeline calls it, and the semaphores closed after the last.
-/
module

public import proofs.«01_k».proof.Proof.Work
public import proofs.«01_k».proof.Proof.Gen.KernelIdeal.Points

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Net Gen

variable {F : FTy → Type} [FloatOps F]

local notation "𝕄" => MT nD τ sig ℕ (Elt F) ℕ UU ℕ

variable (m : (ℓ : Loc nD τ sig) → Buf (Elt F) ℓ) (ρ : Dev nD → PrngReg) (K : Dev nD × Role → ℕ)

/-! ## The staging buffers -/

theorem stage_in_read : ∀ (s : Fin 2) (g), (win0_0.stage s).view.readAt (Elt F) whole.toLoadRect g = (win0_0.stage s).view.read (Elt F) g := by
  intro s g
  fin_cases s
  · exact Memref.readAt_unit_zero (Elt F) cc0_stg0_0 zeros _ g
  · exact Memref.readAt_unit_zero (Elt F) cc0_stg0_1 zeros _ g
theorem stage_out_write : ∀ (s : Fin 2) (g w), (win0_1.stage s).view.read (Elt F) (((win0_1.stage s).access whole : View sig .tc _ _ _).write (Elt F) g w Finset.univ) = w := by
  intro s g w
  fin_cases s
  · exact (View.read_whole _ _).trans (Memref.write_access_unit_zero_univ (Elt F) cc0_stg1_0 zeros _ g w)
  · exact (View.read_whole _ _).trans (Memref.write_access_unit_zero_univ (Elt F) cc0_stg1_1 zeros _ g w)
theorem stage_in_set : ∀ s : Fin 2, (win0_0.stage s).view.set = Finset.univ := by
  intro s; fin_cases s <;> exact View.set_whole _
theorem stage_out_set : ∀ s : Fin 2, (win0_1.stage s).view.set = Finset.univ := by
  intro s; fin_cases s <;> exact View.set_whole _

/-! ## The blocks loaded -/

/-- Grid point number `t`, taken round. -/
def pt (t : ℕ) : Fin grid0.N := ⟨t % 4, by rw [N_0]; exact Nat.mod_lt _ (by decide)⟩

theorem pt_val (t : Fin grid0.N) : pt t.val = t := Fin.ext (Nat.mod_eq_of_lt (N_0 ▸ t.isLt))

/-- The block device `c` loads at grid point `t`. -/
def blockAt (t : ℕ) (c : Dev nD) : FVec F Blk .f32 := (win0_0.blk (pt t)).view.read (Elt F) (m ((c : Thread nD τ).loc main_arg0))

/-! ## The bodies -/

/-- What the body at grid point `t` is called on besides what the device keeps. -/
abbrev onStage (c : Dev nD) (t : Fin cfg0.N) (v : Vec F S4096x256 .f32) : sProp 𝕄 :=
  iprop(owns (c : Thread nD τ) (st0_0 t) fullShare (blockAt m t.val c) ∗ owns (c : Thread nD τ) (st0_1 t) fullShare v)

theorem lt_points {k : ℕ} (h : k < 4) : k < grid0.N := N_0 ▸ h

theorem cond1_0 : k0_cond1 (grid0.coords ⟨0, lt_points (by decide)⟩) = 1#1 := by decide
theorem cond2_1 : k0_cond2 (grid0.coords ⟨1, lt_points (by decide)⟩) = 1#1 := by decide
theorem cond2_2 : k0_cond2 (grid0.coords ⟨2, lt_points (by decide)⟩) = 1#1 := by decide
theorem cond2_3 : k0_cond2 (grid0.coords ⟨3, lt_points (by decide)⟩) = 1#1 := by decide

/-- The first grid point. -/
theorem wp_point0 (c : Dev nD) (v : Vec F S4096x256 .f32) (Q : PUnit → sProp 𝕄) :
    iprop((hold (blockAt m) K c 0 ∗ barRes c ∗ ∃ W, owes (c : Thread nD τ) (owedStart c) W) ∗ (∃ f, sndPts c f) ∗ onStage m c t0_0 v)
      ⊢ iprop(((along (blockAt m) K (atPos ER (cell c .bar) 1 ∅ 0) c 10 ∗ onStage m c t0_0 (before (blockAt m 0) 10 c)) -∗ Q ⟨⟩)
        -∗ wp frame (wpE (defs₀ (F := F)) 𝒱₀ (c : Thread nD τ) none) Set.univ (bodyAt0 (F := F) t0_0) Q) := by
  rw [show bodyAt0 (F := F) t0_0 = _ from cc0_body_first (F := F) _ _ _ _ _ _ _ (lt_points (by decide)) cond1_0]
  simp only [Prog.lift, Prog.bind_op, Prog.bind_ret, wp_deviceId]
  rw [bar1_eq _ c cond1_0, bar2_eq _ c cond1_0, bar3_eq _ c cond1_0, bar4_eq _ c cond1_0]
  exact wp_work (blockAt m) K c (t := 0) (by decide) (st0_0 t0_0) (st0_1 t0_0) (stage_in_read _) (stage_out_write _) (stage_in_set _) (stage_out_set _)
    _ iprop(midway (blockAt m) K c 0 ∗ atPos ER (cell c .bar) 1 ∅ 0) (atPos ER (cell c .bar) 1 ∅ 0) _ _
    (wp_barrier (blockAt m) K c)
    (fun Q => by
      iintro H Hk
      rw [Prog.pure_eq_ret, wp_ret]; imodintro
      iapply Hk; iexact H) v Q

/-- A later grid point's work, the acknowledgement to device `peer 0` first. -/
theorem wp_later (c : Dev nD) (k : ℕ) (hk0 : 0 < k) (hk : k < 4) (arg1 arg2 : Memref sig .tc .vmem S4096x256 .f32)
    (hread : ∀ g, arg1.view.readAt (Elt F) whole.toLoadRect g = arg1.view.read (Elt F) g)
    (hwrite : ∀ g w, arg2.view.read (Elt F) ((arg2.access whole : View sig .tc _ _ _).write (Elt F) g w Finset.univ) = w)
    (hset1 : arg1.view.set = Finset.univ) (hset2 : arg2.view.set = Finset.univ)
    (i) (h2 : k0_cond2 i = 1#1) (v : Vec F S4096x256 .f32) (Q : PUnit → sProp 𝕄) :
    iprop(along (blockAt m) K (atPos ER (cell c .bar) 1 ∅ 0) c (10 * k)
        ∗ owns (c : Thread nD τ) arg1 fullShare (blockAt m k c) ∗ owns (c : Thread nD τ) arg2 fullShare v)
      ⊢ iprop(((along (blockAt m) K (atPos ER (cell c .bar) 1 ∅ 0) c (10 * k + 10)
          ∗ owns (c : Thread nD τ) arg1 fullShare (blockAt m k c) ∗ owns (c : Thread nD τ) arg2 fullShare (before (blockAt m k) 10 c)) -∗ Q ⟨⟩)
        -∗ wp frame (wpE (defs₀ (F := F)) 𝒱₀ (c : Thread nD τ) none) Set.univ
          (do
            let d0 : Dev nD ← Prog.lift .deviceId
            bodyOf arg1 arg2 sM (Memref.isWhole_whole _) bM (Memref.isWhole_whole _) cc0_scratch2 cc0_scratch3 cc0_scratch4
              (pure ⟨⟩) (credit ⟨k0_dev5 d0, k0_dev5_lt i d0 h2⟩ (readySem cc0_scratch4 0)) (dstDev d0) (ackDev d0) d0) Q) := by
  simp only [Prog.lift, Prog.bind_op, Prog.bind_ret, wp_deviceId]
  rw [ack5_eq i c h2]
  have hex : ex (10 * k) = 0 := by
    unfold ex; exact Fin.ext (by show exBit (10 * k % 10) = 0; rw [Nat.mul_mod_right]; rfl)
  have hfirst : ∀ Q : PUnit → sProp 𝕄, iprop(between (blockAt m) K c (10 * k) ∗ atPos ER (cell c .bar) 1 ∅ 0)
      ⊢ iprop(((midway (blockAt m) K c (10 * k + 0) ∗ atPos ER (cell c .bar) 1 ∅ 0) -∗ Q ⟨⟩)
        -∗ wp frame (wpE (defs₀ (F := F)) 𝒱₀ (c : Thread nD τ) none) Set.univ (credit (peer 0 c) (readySem cc0_scratch4 0)) Q) := fun Q => by
    have h := wp_credit (blockAt m) K c (10 * k) (by omega) (by omega) Q
    rw [show mateOf (10 * k) c = peer 0 c from congrArg (fun e => peer e c) hex, hex] at h
    iintro ⟨Hb, HR⟩ Hk
    iapply h $$ Hb
    iintro Hm
    iapply Hk
    isplitl [Hm] <;> iassumption
  rw [show along (blockAt m) K (atPos ER (cell c .bar) 1 ∅ 0) c (10 * k)
    = iprop(between (blockAt m) K c (10 * k) ∗ atPos ER (cell c .bar) 1 ∅ 0 ∗ ∃ f, sndPts c f) from rfl]
  iintro ⟨⟨Hb, HR, Hs⟩, H1, H2⟩ Hk
  iapply (wp_work (blockAt m) K c (t := k) hk arg1 arg2 hread hwrite hset1 hset2
    iprop(between (blockAt m) K c (10 * k) ∗ atPos ER (cell c .bar) 1 ∅ 0)
    iprop(between (blockAt m) K c (10 * k) ∗ atPos ER (cell c .bar) 1 ∅ 0) (atPos ER (cell c .bar) 1 ∅ 0) _ _
    (fun Q => by
      iintro H Hk
      rw [Prog.pure_eq_ret, wp_ret]; imodintro
      iapply Hk; iexact H)
    hfirst v Q) $$ [Hb HR Hs H1 H2]
  · isplitl [Hb HR]
    · isplitl [Hb] <;> iassumption
    isplitl [Hs]; · iexact Hs
    isplitl [H1] <;> iassumption
  · iexact Hk

theorem wp_point1 (c : Dev nD) (v : Vec F S4096x256 .f32) (Q : PUnit → sProp 𝕄) :
    iprop(along (blockAt m) K (atPos ER (cell c .bar) 1 ∅ 0) c 10 ∗ onStage m c t0_1 v)
      ⊢ iprop(((along (blockAt m) K (atPos ER (cell c .bar) 1 ∅ 0) c 20 ∗ onStage m c t0_1 (before (blockAt m 1) 10 c)) -∗ Q ⟨⟩)
        -∗ wp frame (wpE (defs₀ (F := F)) 𝒱₀ (c : Thread nD τ) none) Set.univ (bodyAt0 (F := F) t0_1) Q) := by
  rw [show bodyAt0 (F := F) t0_1 = _ from cc0_body_next1 (F := F) _ _ _ _ _ _ _ (lt_points (by decide)) cond2_1]
  exact wp_later m K c 1 (by decide) (by decide) _ _ (stage_in_read _) (stage_out_write _) (stage_in_set _) (stage_out_set _) _ cond2_1 v Q

theorem wp_point2 (c : Dev nD) (v : Vec F S4096x256 .f32) (Q : PUnit → sProp 𝕄) :
    iprop(along (blockAt m) K (atPos ER (cell c .bar) 1 ∅ 0) c 20 ∗ onStage m c t0_2 v)
      ⊢ iprop(((along (blockAt m) K (atPos ER (cell c .bar) 1 ∅ 0) c 30 ∗ onStage m c t0_2 (before (blockAt m 2) 10 c)) -∗ Q ⟨⟩)
        -∗ wp frame (wpE (defs₀ (F := F)) 𝒱₀ (c : Thread nD τ) none) Set.univ (bodyAt0 (F := F) t0_2) Q) := by
  rw [show bodyAt0 (F := F) t0_2 = _ from cc0_body_next2 (F := F) _ _ _ _ _ _ _ (lt_points (by decide)) cond2_2]
  exact wp_later m K c 2 (by decide) (by decide) _ _ (stage_in_read _) (stage_out_write _) (stage_in_set _) (stage_out_set _) _ cond2_2 v Q

theorem wp_point3 (c : Dev nD) (v : Vec F S4096x256 .f32) (Q : PUnit → sProp 𝕄) :
    iprop(along (blockAt m) K (atPos ER (cell c .bar) 1 ∅ 0) c 30 ∗ onStage m c t0_3 v)
      ⊢ iprop(((along (blockAt m) K (atPos ER (cell c .bar) 1 ∅ 0) c 40 ∗ onStage m c t0_3 (before (blockAt m 3) 10 c)) -∗ Q ⟨⟩)
        -∗ wp frame (wpE (defs₀ (F := F)) 𝒱₀ (c : Thread nD τ) none) Set.univ (bodyAt0 (F := F) t0_3) Q) := by
  rw [show bodyAt0 (F := F) t0_3 = _ from cc0_body_next3 (F := F) _ _ _ _ _ _ _ (lt_points (by decide)) cond2_3]
  exact wp_later m K c 3 (by decide) (by decide) _ _ (stage_in_read _) (stage_out_write _) (stage_in_set _) (stage_out_set _) _ cond2_3 v Q

end Cert.KernelIdeal

end
-- ==== Proof.Region.lean ====
/-
  The pipeline's proof data: what each array and stage holds at each grid point, what a device keeps between points and
  what it owes; and the obligation on the body.
-/
module

public import proofs.«01_k».proof.Proof.Points

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Net Gen

variable {F : FTy → Type} [FloatOps F]

local notation "𝕄" => MT nD τ sig ℕ (Elt F) ℕ UU ℕ

variable (m : (ℓ : Loc nD τ sig) → Buf (Elt F) ℓ)

/-! ## Closing the semaphores -/

/-- Every semaphore of device `c` at zero, by role. -/
def zeroed (c : Dev nD) : sProp 𝕄 :=
  iprop(semVal (cell c .bar) 0 ∗ semVal (cell c .send) 0 ∗ semVal (cell c .recv) 0 ∗ bigSep Finset.univ fun e : Fin 4 => semVal (cell c (.ready e)) 0)

theorem dut_end (k : Role) (R : ℕ) (h : dut R k = ∅) (r : ℕ) (hr : R ≤ r) : dut r k = ∅ := by
  cases k with
  | bar =>
    rw [show dut R .bar = if R = 0 then Finset.univ else ∅ from rfl] at h
    by_cases h0 : R = 0
    · rw [if_pos h0] at h; exact absurd h (Finset.univ_nonempty.ne_empty)
    · exact if_neg (by omega)
  | send => exact past 40 h
  | recv => exact past 40 h
  | ready e => exact past (acks e 40) h
where
  past (b : ℕ) (h : (if R < b then ({0} : Finset (Fin 4)) else ∅) = ∅) : (if r < b then ({0} : Finset (Fin 4)) else ∅) = ∅ := by
    by_cases hb : R < b
    · rw [if_pos hb] at h; exact absurd h (Finset.singleton_ne_empty _)
    · exact if_neg (by omega)

/-- A semaphore whose owner is past its last round closes at zero. -/
theorem close_one (X : ℕ → Dev nD → FVec F Blk .f32) (K : Dev nD × Role → ℕ) (c : Dev nD) (k : Role) (R : ℕ) (h : dut R k = ∅) :
    iprop(records X K ∗ atPos ER (cell c k) R ∅ 0) ⊢ (|={Set.univ}=> semVal (cell c k) 0 : sProp 𝕄) := by
  iintro ⟨HR, Ha⟩
  iapply (Rounds.cell_close ER (sched X) (κ := K (c, k)) (g := cell c k) (Set.mem_univ _) (fun h => h)
    (R := R) (fun r hr => (duties_cell X c k r).trans (dut_end k R h r hr)))
  isplitl [HR]
  · iapply (records_inv X K c k); iexact HR
  · iexact Ha

theorem close_ready (X : ℕ → Dev nD → FVec F Blk .f32) (K : Dev nD × Role → ℕ) (c : Dev nD) (e : Fin 4) :
    iprop(records X K ∗ ackAt c 40 e) ⊢ (|={Set.univ}=> semVal (cell c (.ready e)) 0 : sProp 𝕄) := by
  unfold ackAt
  iintro ⟨HR, Ha, -⟩
  iapply (close_one X K c (.ready e) (acks e 40) (if_neg (lt_irrefl _)))
  isplitl [HR] <;> iassumption

theorem close_all (X : ℕ → Dev nD → FVec F Blk .f32) (K : Dev nD × Role → ℕ) (c : Dev nD) :
    along X K (atPos ER (cell c .bar) 1 ∅ 0) c 40
      ⊢ (|={Set.univ}=> iprop(((∃ f, sndPts c f) ∗ (∃ f, bufPts c f) ∗ zeroed c) ∗ ∃ W, owes (c : Thread nD τ) 0 W) : sProp 𝕄) := by
  unfold along between hold zeroed
  rw [owedFrom_end]
  iintro ⟨⟨⟨#HR, -, Hs, -, Hr, -, Ha, -, Hb⟩, Ho⟩, Hbar, Hsnd⟩
  imod (close_one X K c .bar 1 rfl) $$ [Hbar] with H1
  · isplitr [Hbar]
    · iexact HR
    · iexact Hbar
  imod (close_one X K c .send 40 rfl) $$ [Hs] with H2
  · isplitr [Hs]
    · iexact HR
    · iexact Hs
  imod (close_one X K c .recv 40 rfl) $$ [Hr] with H3
  · isplitr [Hr]
    · iexact HR
    · iexact Hr
  imod (show iprop(records X K ∗ bigSep Finset.univ fun e => ackAt c 40 e) ⊢ (|={Set.univ}=> bigSep Finset.univ fun e : Fin 4 => semVal (cell c (.ready e)) 0 : sProp 𝕄) from
      (sep_mono_left (BI.bigSep_of_persistent Finset.univ (records X K))).trans (by
        rw [← bigSep_sep']; exact (bigSep_mono fun e _ => close_ready X K c e).trans (bigSep_fupd _ _))) $$ [Ha] with H4
  · isplitr [Ha]
    · iexact HR
    · iexact Ha
  imodintro
  isplitr [Ho]
  · isplitl [Hsnd]; · iexact Hsnd
    isplitl [Hb]; · iexact Hb
    isplitl [H1]; · iexact H1
    isplitl [H2]; · iexact H2
    isplitl [H3] <;> iassumption
  · iexact Ho

/-! ## The proof data -/

/-- Before the first grid point. -/
def keep0 (c : Dev nD) : sProp 𝕄 := iprop((∃ K, hold (blockAt m) K c 0) ∗ barRes c ∗ ∃ f, sndPts c f)
/-- Between grid points, `n` exchanges done. -/
def keepAt (c : Dev nD) (n : ℕ) : sProp 𝕄 := iprop((∃ K, hold (blockAt m) K c n) ∗ atPos ER (cell c .bar) 1 ∅ 0 ∗ ∃ f, sndPts c f)
/-- After the last grid point. -/
def keepEnd (c : Dev nD) : sProp 𝕄 := iprop((∃ f, sndPts c f) ∗ (∃ f, bufPts c f) ∗ zeroed c)

def keep (c : Dev nD) (t : ℕ) : sProp 𝕄 := if t = 0 then keep0 m c else if t = 4 then keepEnd c else keepAt m c (10 * t)
def owing (c : Dev nD) (t : ℕ) : CellTallies nD τ sig ℕ := if t = 0 then owedStart c else owedFrom c (10 * t)

def dats (_ : Fin 1) (c : Dev nD) : Dat τ (Elt F) ℕ ℕ UU ℕ cfg0 c where
  A w := m ((cfg0.win w).arr.view.loc (c : Thread nD τ))
  after w t := match w with
    | ⟨0, _⟩ => blockAt m t.val c
    | ⟨1, _⟩ => before (blockAt m t.val) 10 c
  Φ t := keep m c t.val
  q _ := fullShare
  owed t := owing c t.val

/-- What the pipeline has loaded at grid point `t`. -/
theorem loaded (c : Dev nD) (t : Fin cfg0.N) (d) : (dats m 0 c).before (0 : Fin 2) t d = blockAt m t.val c := by
  unfold Dat.before
  rw [if_pos (fetch0_0 t)]
  show (win0_0.blk t).view.read (Elt F) _ = _
  unfold blockAt
  rw [pt_val t]

/-- What is asked at a grid point, one thing at a time. -/
def asked (c : Dev nD) (t : Fin cfg0.N) : Prop :=
  iprop(keep m c t.castSucc.val ∗ (∃ W, owes (c : Thread nD τ) (owing c t.castSucc.val) W)
      ∗ owns (c : Thread nD τ) (st0_0 t) fullShare (blockAt m t.val c) ∗ ∃ v, owns (c : Thread nD τ) (st0_1 t) fullShare v)
    ⊢ (wp frame (wpE (defs₀ (F := F)) 𝒱₀ (c : Thread nD τ) none) Set.univ (bodyAt0 (F := F) t) fun _ =>
      iprop(keep m c t.succ.val ∗ (∃ W, owes (c : Thread nD τ) (owing c t.succ.val) W)
        ∗ owns (c : Thread nD τ) (st0_0 t) fullShare (blockAt m t.val c) ∗ owns (c : Thread nD τ) (st0_1 t) fullShare (before (blockAt m t.val) 10 c)) : sProp 𝕄)

theorem asked_0 (c : Dev nD) : asked m c t0_0 := by
  show iprop(keep0 m c ∗ (∃ W, owes (c : Thread nD τ) (owedStart c) W) ∗ owns (c : Thread nD τ) (st0_0 t0_0) fullShare (blockAt m t0_0.val c)
      ∗ ∃ v, owns (c : Thread nD τ) (st0_1 t0_0) fullShare v) ⊢ wp frame (wpE (defs₀ (F := F)) 𝒱₀ (c : Thread nD τ) none) Set.univ (bodyAt0 (F := F) t0_0)
        fun _ => iprop(keepAt m c 10 ∗ (∃ W, owes (c : Thread nD τ) (owedFrom c 10) W) ∗ onStage m c t0_0 (before (blockAt m 0) 10 c))
  unfold keep0
  iintro ⟨⟨⟨%K, Hh⟩, Hb, Hs⟩, Ho, H1, ⟨%v, H2⟩⟩
  iapply (wp_point0 m K c v) $$ [Hh Hb Hs Ho H1 H2]
  · isplitl [Hh Hb Ho]
    · isplitl [Hh]; · iexact Hh
      isplitl [Hb] <;> iassumption
    isplitl [Hs]; · iexact Hs
    isplitl [H1] <;> iassumption
  · unfold along between keepAt
    iintro ⟨⟨⟨Hh, Ho⟩, Ha, Hs⟩, H⟩
    isplitl [Hh Ha Hs]
    · isplitl [Hh]
      · iexists K; iexact Hh
      isplitl [Ha] <;> iassumption
    isplitl [Ho] <;> iassumption

/-- A later point but the last. -/
theorem asked_mid (c : Dev nD) (t : Fin cfg0.N) (n n' : ℕ)
    (hwp : ∀ (K : Dev nD × Role → ℕ) v Q, iprop(along (blockAt m) K (atPos ER (cell c .bar) 1 ∅ 0) c n ∗ onStage m c t v)
      ⊢ iprop(((along (blockAt m) K (atPos ER (cell c .bar) 1 ∅ 0) c n' ∗ onStage m c t (before (blockAt m t.val) 10 c)) -∗ Q ⟨⟩)
        -∗ wp frame (wpE (defs₀ (F := F)) 𝒱₀ (c : Thread nD τ) none) Set.univ (bodyAt0 (F := F) t) Q)) :
    iprop(keepAt m c n ∗ (∃ W, owes (c : Thread nD τ) (owedFrom c n) W) ∗ owns (c : Thread nD τ) (st0_0 t) fullShare (blockAt m t.val c)
      ∗ ∃ v, owns (c : Thread nD τ) (st0_1 t) fullShare v) ⊢ wp frame (wpE (defs₀ (F := F)) 𝒱₀ (c : Thread nD τ) none) Set.univ (bodyAt0 (F := F) t)
        fun _ => iprop(keepAt m c n' ∗ (∃ W, owes (c : Thread nD τ) (owedFrom c n') W) ∗ onStage m c t (before (blockAt m t.val) 10 c)) := by
  unfold keepAt
  iintro ⟨⟨⟨%K, Hh⟩, Hb, Hs⟩, Ho, H1, ⟨%v, H2⟩⟩
  iapply (hwp K v) $$ [Hh Hb Hs Ho H1 H2]
  · unfold along between
    isplitr [H1 H2]
    · isplitl [Hh Ho]
      · isplitl [Hh] <;> iassumption
      isplitl [Hb] <;> iassumption
    isplitl [H1] <;> iassumption
  · unfold along between
    iintro ⟨⟨⟨Hh, Ho⟩, Ha, Hs⟩, H⟩
    isplitl [Hh Ha Hs]
    · isplitl [Hh]
      · iexists K; iexact Hh
      isplitl [Ha] <;> iassumption
    isplitl [Ho] <;> iassumption

theorem asked_3 (c : Dev nD) : asked m c t0_3 := by
  show iprop(keepAt m c 30 ∗ (∃ W, owes (c : Thread nD τ) (owedFrom c 30) W) ∗ owns (c : Thread nD τ) (st0_0 t0_3) fullShare (blockAt m t0_3.val c)
      ∗ ∃ v, owns (c : Thread nD τ) (st0_1 t0_3) fullShare v) ⊢ wp frame (wpE (defs₀ (F := F)) 𝒱₀ (c : Thread nD τ) none) Set.univ (bodyAt0 (F := F) t0_3)
        fun _ => iprop(keepEnd c ∗ (∃ W, owes (c : Thread nD τ) (owedFrom c 40) W) ∗ onStage m c t0_3 (before (blockAt m 3) 10 c))
  rw [owedFrom_end]
  unfold keepAt
  iintro ⟨⟨⟨%K, Hh⟩, Hb, Hs⟩, Ho, H1, ⟨%v, H2⟩⟩
  iapply wp_fupd
  iapply (wp_point3 m K c v) $$ [Hh Hb Hs Ho H1 H2]
  · unfold along between
    isplitr [H1 H2]
    · isplitl [Hh Ho]
      · isplitl [Hh] <;> iassumption
      isplitl [Hb] <;> iassumption
    isplitl [H1] <;> iassumption
  · iintro ⟨Ha, H⟩
    imod (close_all (blockAt m) K c) $$ Ha with ⟨He, Ho⟩
    imodintro
    unfold keepEnd
    isplitl [He]; · iexact He
    isplitl [Ho] <;> iassumption

theorem asked_all (c : Dev nD) (t : Fin cfg0.N) : asked m c t := by
  rcases fin_N0 t with rfl | rfl | rfl | rfl
  · exact asked_0 m c
  · exact asked_mid m c t0_1 10 20 fun K => wp_point1 m K c
  · exact asked_mid m c t0_2 20 30 fun K => wp_point2 m K c
  · exact asked_3 m c

/-- The obligation on the body. -/
theorem body_obligation (c : Dev nD) : BodyObligation (dats m 0 c) (defs₀ (F := F)) 𝒱₀ (0 : ℕ) Set.univ := fun t => by
  rw [bigSep_W0, bigSep_W0]
  refine BIBase.Entails.trans ?_ ((asked_all m c t).trans (wp_mono _ _ _ ?_))
  · show iprop(keep m c t.castSucc.val ∗ (dats m 0 c).owesAt (0 : ℕ) t.castSucc
      ∗ (∃ d, owns (c : Thread nD τ) (st0_0 t) fullShare ((dats m 0 c).before (0 : Fin 2) t d))
      ∗ (∃ d, owns (c : Thread nD τ) (st0_1 t) fullShare ((dats m 0 c).before (1 : Fin 2) t d))) ⊢ _
    iintro ⟨Hk, Ho, ⟨%d, H1⟩, ⟨%d', H2⟩⟩
    rw [loaded m c t d]
    isplitl [Hk]; · iexact Hk
    isplitl [Ho]
    · unfold Dat.owesAt Pipeline.owesWithin
      icases Ho with ⟨%W, -, Ho⟩
      iexists W; iexact Ho
    isplitl [H1]; · iexact H1
    iexists _; iexact H2
  · intro r
    show _ ⊢ iprop(keep m c t.succ.val ∗ (dats m 0 c).owesAt (0 : ℕ) t.succ
      ∗ owns (c : Thread nD τ) (st0_0 t) fullShare (blockAt m t.val c) ∗ owns (c : Thread nD τ) (st0_1 t) fullShare (before (blockAt m t.val) 10 c))
    iintro ⟨Hk, ⟨%W, Ho⟩, H⟩
    isplitl [Hk]; · iexact Hk
    isplitl [Ho]
    · unfold Dat.owesAt Pipeline.owesWithin
      iexists W
      isplitr
      · ipureintro; exact fun _ _ => Or.inl trivial
      · iexact Ho
    iexact H

end Cert.KernelIdeal

end
-- ==== Proof.Dealing.lean ====
/-
  The launch's set-up: the semaphores' ghost state made and dealt to the devices, and the credit each device starts with.
-/
module

public import proofs.«01_k».proof.Proof.Region

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Net Gen

variable {F : FTy → Type} [FloatOps F]

local notation "𝕄" => MT nD τ sig ℕ (Elt F) ℕ UU ℕ

/-! ## Over the roles, and over the exchanges -/

theorem over_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem over_roles (Φ : Role → sProp 𝕄) :
    bigSep Finset.univ Φ = iprop(Φ .bar ∗ Φ .send ∗ Φ .recv ∗ bigSep Finset.univ fun e => Φ (.ready e)) := by
  rw [bigSep_univ_eq_bigSepL [Role.bar, .send, .recv, .ready 0, .ready 1, .ready 2, .ready 3] (by decide) (by decide) Φ,
    over_fin4 fun e => Φ (.ready e)]
  rfl

theorem over_exchanges (Φ : ℕ → sProp 𝕄) : (bigSep Finset.univ fun n : Fin 40 => Φ n.val) = bigSep (Finset.Ico 0 40) Φ := by
  rw [show Finset.Ico 0 40 = (Finset.univ : Finset (Fin 40)).map Fin.valEmbedding from by decide, bigSep_map]; rfl

/-! ## The ghost state -/

theorem cell_injective : Function.Injective fun ck : Dev nD × Role => cell ck.1 ck.2 := fun a b h => by
  obtain ⟨h1, h2⟩ := cell_inj h; exact Prod.ext h1 h2
def cellSet : Finset (GSem nD τ sig) := Finset.univ.map ⟨_, cell_injective⟩

/-- The semaphore a token of device `c` is for: of exchange `n`, the arrival at the partner (`0`), the departure (`1`), the
    acknowledgement to the partner (`2`); and the barrier's (`3`). -/
def tokCell (c : Dev nD) (n : ℕ) (k : Fin 4) : GSem nD τ sig := match k with
  | 0 => cell (mateOf n c) .recv | 1 => cell c .send | 2 => cell (mateOf n c) (.ready (ex n)) | 3 => cell (peer ⟨n % 4, Nat.mod_lt _ (by decide)⟩ c) .bar
/-- Its round. -/
def tokRound (n : ℕ) (k : Fin 4) : ℕ := match k with | 0 => n | 1 => n | 2 => ackRound n | 3 => n / 4
/-- Which of the round's. -/
def tokDuty (n : ℕ) (k : Fin 4) : Fin 4 := match k with | 0 => 0 | 1 => 0 | 2 => 0 | 3 => ⟨n % 4, Nat.mod_lt _ (by decide)⟩

def tokOf (x : Dev nD × Fin 40 × Fin 4) : GSem nD τ sig × ℕ × Fin 4 := (tokCell x.1 x.2.1.val x.2.2, tokRound x.2.1.val x.2.2, tokDuty x.2.1.val x.2.2)

theorem acks_le (e : Fin 4) (n : ℕ) : acks e n ≤ n := by
  induction n with
  | zero => exact le_refl _
  | succ n ih => show acks e n + _ ≤ _; split <;> omega

theorem ackRound_inj {n n' : ℕ} (hn : n < 40) (hn' : n' < 40) (he : ex n = ex n') (h : ackRound n = ackRound n') : n = n' := by
  unfold ackRound at h
  have h1 := acks_le (ex n) n
  have h2 := acks_le (ex n') n'
  by_cases h0 : n = 0
  · by_cases h0' : n' = 0
    · rw [h0, h0']
    · rw [if_pos h0, if_neg h0'] at h; omega
  · by_cases h0' : n' = 0
    · rw [if_neg h0, if_pos h0'] at h; omega
    · rw [if_neg h0, if_neg h0', ← he] at h
      exact acks_inj (by omega) rfl (by omega) he.symm h

theorem tok_kind {c c' : Dev nD} {n n' : ℕ} {k k' : Fin 4} (h : tokCell c n k = tokCell c' n' k') : k = k' := by
  fin_cases k <;> fin_cases k' <;> first | rfl | exact absurd (cell_inj h).2 (fun h => by cases h)

theorem tokOf_injective : Function.Injective tokOf := by
  rintro ⟨c, ⟨n, hn⟩, k⟩ ⟨c', ⟨n', hn'⟩, k'⟩ h
  have hc : tokCell c n k = tokCell c' n' k' := congrArg Prod.fst h
  have hr : tokRound n k = tokRound n' k' := congrArg (fun x => x.2.1) h
  have hd : tokDuty n k = tokDuty n' k' := congrArg (fun x => x.2.2) h
  obtain rfl := tok_kind hc
  have : n = n' ∧ c = c' := by
    fin_cases k
    · have e : n = n' := hr
      subst e
      exact ⟨rfl, peer_injective _ (cell_inj hc).1⟩
    · exact ⟨hr, (cell_inj hc).1⟩
    · have he : ex n = ex n' := Role.ready.inj (cell_inj hc).2
      obtain rfl := ackRound_inj hn hn' he hr
      exact ⟨rfl, peer_injective _ (cell_inj hc).1⟩
    · have h1 : n / 4 = n' / 4 := hr
      have h2 : n % 4 = n' % 4 := congrArg Fin.val hd
      obtain rfl : n = n' := by omega
      exact ⟨rfl, peer_injective _ (cell_inj hc).1⟩
  obtain ⟨rfl, rfl⟩ := this
  rfl
def tokSet : Finset (GSem nD τ sig × ℕ × Fin 4) := Finset.univ.map ⟨tokOf, tokOf_injective⟩

/-- The launch's ghost element: the pipeline's, and the schedule's. -/
def u₀ : UU := (initOf (Pipeline.cells cfgs cellOf_inj) (Pipeline.launchToks cfgs cellOf_inj), initOf cellSet tokSet)

/-- The tokens of what device `c` does. -/
def toks (c : Dev nD) : sProp 𝕄 :=
  bigSep Finset.univ fun n : Fin 40 => iprop(dutyTok ER (cell (mateOf n.val c) .recv) n.val 0 ∗ dutyTok ER (cell c .send) n.val 0
    ∗ dutyTok ER (cell (mateOf n.val c) (.ready (ex n.val))) (ackRound n.val) 0
    ∗ dutyTok ER (tokCell c n.val 3) (n.val / 4) (tokDuty n.val 3))

section Dealt

variable (X : ℕ → Dev nD → FVec F Blk .f32)

/-- What the launch element deals device `c`. -/
def dealt (c : Dev nD) : sProp 𝕄 :=
  iprop((bigSep Finset.univ fun k : Role => roundState ER (sched X) (cell c k) 0)
    ∗ (bigSep Finset.univ fun k : Role => iprop(atPos ER (cell c k) 0 ∅ 0 ∗ reached ER (cell c k) 0)) ∗ toks c)

/-- What device `c` has of it once the semaphores follow the schedule. -/
def holding (K : Dev nD × Role → ℕ) (c : Dev nD) : sProp 𝕄 :=
  iprop(records X K ∗ (bigSep Finset.univ fun k : Role => atPos ER (cell c k) 0 ∅ 0) ∗ toks c)

theorem deal : BI.own (ER (initOf cellSet tokSet)) ⊢ (|==> bigSep Finset.univ (dealt X) : sProp 𝕄) := by
  have hX (Φ : GSem nD τ sig → sProp 𝕄) : bigSep cellSet Φ = bigSep Finset.univ fun c : Dev nD => bigSep Finset.univ fun k : Role => Φ (cell c k) := by
    unfold cellSet; rw [bigSep_map, bigSep_univ_prod]; rfl
  have hT : bigSep tokSet (fun x => (dutyTok ER x.1 x.2.1 x.2.2 : sProp 𝕄)) = bigSep Finset.univ fun c : Dev nD => toks c := by
    unfold tokSet; rw [bigSep_map, bigSep_univ_prod]
    refine bigSep_congr fun c _ => ?_
    rw [bigSep_univ_prod]
    unfold toks
    exact bigSep_congr fun n _ => by rw [over_fin4]; rfl
  iintro H
  imod (Rounds.fund ER (sched X) cellSet tokSet) $$ H with ⟨Hst, Hr, Hat, Htok⟩
  imodintro
  ihave Hst' := (Entails.of_eq (hX fun g => roundState ER (sched X) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt; simp only [bigSep_sep']
  isplitl [Hst']; · iexact Hst'
  isplitl [Hat' Hr']
  · isplitl [Hat'] <;> iassumption
  iexact Htok'

/-- The kernel's own semaphores, as the launch lists them. -/
abbrev osem : Fin 6 → SemLoc sig := fun
  | 0 => roleSem .send | 1 => roleSem .recv | 2 => roleSem (.ready 0) | 3 => roleSem (.ready 1) | 4 => roleSem (.ready 2) | 5 => roleSem (.ready 3)

theorem ownSemFacts : Pipeline.OwnSemFacts cfg0.spec osem := by decide

theorem own_eq (c : Dev nD) : (Pipeline.ownSems0 (Ix := ℕ) (Name := ℕ) (U := UU) (Lvl := ℕ) (Val := Elt F) (τ := τ) osem c : sProp 𝕄)
    = iprop(semVal (cell c .send) 0 ∗ semVal (cell c .recv) 0 ∗ bigSep Finset.univ fun e : Fin 4 => semVal (cell c (.ready e)) 0) := by
  rw [Pipeline.ownSems0_eq_of_list c osem [0, 1, 2, 3, 4, 5] (by decide) (by decide), over_fin4]; rfl
theorem unscoped_eq (c : Dev nD) : (unscopedSems0 c : sProp 𝕄) = semVal (cell c .bar) 0 := by
  unfold unscopedSems0; rw [bigSep_eq_bigSepL_of_eq [roleSem .bar] (by decide) (by decide)]; rfl

/-- Every semaphore of a device at zero, as the launch has them and by role. -/
theorem sems_split (c : Dev nD) :
    iprop(Pipeline.ownSems0 (Ix := ℕ) (Name := ℕ) (U := UU) (Lvl := ℕ) (Val := Elt F) (τ := τ) osem c ∗ unscopedSems0 c)
      ⊢ (bigSep Finset.univ fun k : Role => semVal (cell c k) 0 : sProp 𝕄) := by
  rw [own_eq, unscoped_eq, over_roles]
  iintro ⟨⟨HS, HV, HA⟩, HB⟩
  isplitl [HB]; · iexact HB
  isplitl [HS]; · iexact HS
  isplitl [HV] <;> iassumption

theorem set_up_core (c : Dev nD) :
    iprop(Pipeline.ownSems0 (Ix := ℕ) (Name := ℕ) (U := UU) (Lvl := ℕ) (Val := Elt F) (τ := τ) osem c ∗ unscopedSems0 c ∗ dealt X c)
      ⊢ |={Set.univ}=> iprop((bigSep Finset.univ fun k => iprop(∃ κ : ℕ, cellInv ER (sched X) κ (cell c k)))
          ∗ (bigSep Finset.univ fun k => iprop(atPos ER (cell c k) 0 ∅ 0 ∗ reached ER (cell c k) 0)) ∗ toks c) := by
  unfold dealt
  iintro ⟨Hos, Hus, Hst, Hat, Htok⟩
  ihave Hv := (sems_split (F := F) c) $$ [Hos Hus]
  · isplitl [Hos] <;> iassumption
  imod (show iprop((bigSep Finset.univ fun k : Role => semVal (cell c k) 0) ∗ bigSep Finset.univ fun k : Role => roundState ER (sched X) (cell c k) 0)
      ⊢ (|={Set.univ}=> bigSep Finset.univ fun k => iprop(∃ κ : ℕ, cellInv ER (sched X) κ (cell c k)) : sProp 𝕄) from by
        rw [← bigSep_sep']
        exact (bigSep_mono fun k _ => (Rounds.body_intro ER (sched X) (cell c k)).trans inv_alloc).trans (bigSep_fupd _ _)) $$ [Hv Hst] with Hinv
  · isplitl [Hv] <;> iassumption
  imodintro
  isplitl [Hinv]; · iexact Hinv
  isplitl [Hat]; · iexact Hat
  iexact Htok

theorem regroup :
    (bigSep Finset.univ fun c : Dev nD => iprop((bigSep Finset.univ fun k => iprop(∃ κ : ℕ, cellInv ER (sched X) κ (cell c k)))
          ∗ (bigSep Finset.univ fun k => iprop(atPos ER (cell c k) 0 ∅ 0 ∗ reached ER (cell c k) 0)) ∗ toks c) : sProp 𝕄)
      ⊢ bigSep Finset.univ fun c => iprop(∃ K, holding X K c) := by
  rw [bigSep_sep', bigSep_sep', ← bigSep_univ_prod (fun ck : Dev nD × Role => iprop(∃ κ : ℕ, cellInv ER (sched X) κ (cell ck.1 ck.2))),
    bigSep_congr (s := Finset.univ) (fun (c : Dev nD) _ => bigSep_sep' Finset.univ (fun k : Role => (atPos ER (cell c k) 0 ∅ 0 : sProp 𝕄)) (fun k => reached ER (cell c k) 0)),
    bigSep_sep', ← bigSep_univ_prod (fun ck : Dev nD × Role => (reached ER (cell ck.1 ck.2) 0 : sProp 𝕄))]
  iintro ⟨HI, ⟨Hat, #HR⟩, Htok⟩
  ihave HK := (BI.bigSep_exists_pi Finset.univ (fun (ck : Dev nD × Role) (κ : ℕ) => (cellInv ER (sched X) κ (cell ck.1 ck.2) : sProp 𝕄))) $$ HI
  icases HK with ⟨%K, #HI⟩
  iapply (show iprop(records X K ∗ bigSep Finset.univ fun c : Dev nD => iprop((bigSep Finset.univ fun k : Role => atPos ER (cell c k) 0 ∅ 0) ∗ toks c))
      ⊢ (bigSep Finset.univ fun c => iprop(∃ K, holding X K c) : sProp 𝕄) from
    (sep_mono_left (BI.bigSep_of_persistent Finset.univ (records X K))).trans (by
      rw [← bigSep_sep']
      exact bigSep_mono fun c _ => show iprop(records X K ∗ (bigSep Finset.univ fun k : Role => atPos ER (cell c k) 0 ∅ 0) ∗ toks c) ⊢ iprop(∃ K, holding X K c) from by
        unfold holding; iintro H; iexists K; iexact H))
  isplitr
  · unfold records; isplitl; · iexact HI
    iexact HR
  · iapply (Entails.of_eq (bigSep_sep' Finset.univ (fun c : Dev nD => (bigSep Finset.univ fun k : Role => atPos ER (cell c k) 0 ∅ 0 : sProp 𝕄)) toks).symm)
    isplitl [Hat]; · iexact Hat
    iexact Htok

/-- All the devices' semaphores set to follow the schedule at once. -/
theorem set_up : (bigSep Finset.univ fun c => iprop(Pipeline.ownSems0 (Ix := ℕ) (Name := ℕ) (U := UU) (Lvl := ℕ) (Val := Elt F) (τ := τ) osem c ∗ unscopedSems0 c ∗ dealt X c) : sProp 𝕄)
    ⊢ |={Set.univ}=> bigSep Finset.univ fun c => iprop(∃ K, holding X K c) :=
  ((bigSep_mono fun c _ => set_up_core X c).trans (bigSep_fupd _ _)).trans (BI.fupd_mono (regroup X))

end Dealt

/-! ## The credit -/

theorem credit_one (c : Dev nD) (n : ℕ) :
    (Pipeline.launchCred (fun d => owedAt d n) c : sProp 𝕄)
      ⊢ iprop(cred (tallyAt (cell c .recv) n N) ∗ cred (if n = 0 then 0 else tallyAt (cell c (.ready (ex n))) n 1)) := by
  rw [show (fun d => owedAt d n) = fun d => tallyAt (cell (mateOf n d) .recv) n N + if n = 0 then 0 else tallyAt (cell (mateOf n d) (.ready (ex n))) n 1 from rfl,
    Pipeline.launchCred_add]
  iintro ⟨H1, H2⟩
  isplitl [H1]
  · iapply (Pipeline.launchCred_tallyAt (roleSem .recv) (mateOf n) (mateOf n) (mateOf_mateOf n) (mateOf_mateOf n) n N c); iexact H1
  · by_cases h0 : n = 0
    · simp only [if_pos h0]
      rw [cred_zero]; iempintro
    · simp only [if_neg h0]
      iapply (Pipeline.launchCred_tallyAt (roleSem (.ready (ex n))) (mateOf n) (mateOf n) (mateOf_mateOf n) (mateOf_mateOf n) n 1 c); iexact H2

theorem credit_bar_one (c : Dev nD) (e : Fin 4) :
    (Pipeline.launchCred (fun d => barOwed d e) c : sProp 𝕄) ⊢ cred (tallyAt (cell c .bar) 0 1) :=
  Pipeline.launchCred_tallyAt (roleSem .bar) (peer e) (peer e) (peer_peer e) (peer_peer e) 0 1 c

theorem credit_four (c : Dev nD) :
    iprop(cred (tallyAt (cell c .bar) 0 1) ∗ cred (tallyAt (cell c .bar) 0 1) ∗ cred (tallyAt (cell c .bar) 0 1) ∗ cred (tallyAt (cell c .bar) 0 1))
      ⊢ (cred (tallyAt (cell c .bar) 0 4) : sProp 𝕄) := by
  rw [show tallyAt (cell c .bar) 0 4 = tallyAt (cell c .bar) 0 1 + (tallyAt (cell c .bar) 0 1 + (tallyAt (cell c .bar) 0 1 + tallyAt (cell c .bar) 0 1)) from by
    rw [tallyAt_add, tallyAt_add, tallyAt_add]]
  iintro ⟨H1, H2, H3, H4⟩
  iapply (cred_add _ _).2
  isplitl [H1]; · iexact H1
  iapply (cred_add _ _).2
  isplitl [H2]; · iexact H2
  iapply (cred_add _ _).2
  isplitl [H3] <;> iassumption

/-- The credit a device starts with. -/
theorem credit_all (c : Dev nD) :
    (Pipeline.launchCred owedStart c : sProp 𝕄)
      ⊢ iprop(cred (tallyAt (cell c .bar) 0 4)
        ∗ bigSep (Finset.Ico 0 40) fun n => iprop(cred (tallyAt (cell c .recv) n N) ∗ cred (if n = 0 then 0 else tallyAt (cell c (.ready (ex n))) n 1))) := by
  rw [show (owedStart : Dev nD → CellTallies nD τ sig ℕ)
      = fun d => (fun d => (fun d => (fun d => (fun d => ∑ n ∈ Finset.Ico 0 40, owedAt d n) d + barOwed d 3) d + barOwed d 2) d + barOwed d 1) d + barOwed d 0 from rfl,
    Pipeline.launchCred_add, Pipeline.launchCred_add, Pipeline.launchCred_add, Pipeline.launchCred_add, Pipeline.launchCred_sum]
  iintro ⟨⟨⟨⟨H, H3⟩, H2⟩, H1⟩, H0⟩
  isplitr [H]
  · iapply credit_four
    isplitl [H0]; · iapply (credit_bar_one c 0); iexact H0
    isplitl [H1]; · iapply (credit_bar_one c 1); iexact H1
    isplitl [H2]; · iapply (credit_bar_one c 2); iexact H2
    iapply (credit_bar_one c 3); iexact H3
  · iapply (show (bigSep (Finset.Ico 0 40) fun n => (Pipeline.launchCred (fun d => owedAt d n) c : sProp 𝕄)) ⊢ _ from bigSep_mono fun n _ => credit_one c n)
    iexact H

end Cert.KernelIdeal

end
-- ==== Proof.Run.lean ====
/-
  The run of the kernel on all devices.
-/
module

public import proofs.«01_k».proof.Proof.Dealing
public import Idealize.ShloMosaic.Lib.Pipeline.CollectiveSegs

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Net Gen

variable {F : FTy → Type} [FloatOps F]

local notation "𝕄" => MT nD τ sig ℕ (Elt F) ℕ UU ℕ

variable (m : (ℓ : Loc nD τ sig) → Buf (Elt F) ℓ) (ρ : Dev nD → PrngReg)

/-- What a device starts from. -/
def start (c : Dev nD) : sProp 𝕄 :=
  iprop((∃ K, holding (blockAt m) K c) ∗ levAts idx lev ∗ cred (tallyAt (cell c .bar) 0 4)
    ∗ bigSep (Finset.Ico 0 40) fun n => iprop(cred (tallyAt (cell c .recv) n N) ∗ cred (if n = 0 then 0 else tallyAt (cell c (.ready (ex n))) n 1)))

theorem first_four (Φ : ℕ → sProp 𝕄) : bigSep (Finset.Ico 0 40) Φ ⊢ iprop(Φ 0 ∗ Φ 1 ∗ Φ 2 ∗ Φ 3) := by
  have h : bigSep (Finset.Ico 0 40) Φ = iprop(Φ 0 ∗ Φ 1 ∗ Φ 2 ∗ Φ 3 ∗ bigSep (Finset.Ico 4 40) Φ) := by
    rw [Ico_peel (n := 0) (by decide), bigSep_insert (by simp), Ico_peel (n := 1) (by decide), bigSep_insert (by simp),
      Ico_peel (n := 2) (by decide), bigSep_insert (by simp), Ico_peel (n := 3) (by decide), bigSep_insert (by simp)]
    rfl
  rw [h]
  iintro ⟨H0, H1, H2, H3, -⟩
  isplitl [H0]; · iexact H0
  isplitl [H1]; · iexact H1
  isplitl [H2] <;> iassumption

/-- A device's tokens: those of the exchanges, and the barrier's. -/
theorem toks_split (c : Dev nD) :
    (toks c : sProp 𝕄) ⊢ iprop((bigSep (Finset.Ico 0 40) fun n => dutyTok ER (cell (mateOf n c) .recv) n 0)
      ∗ (bigSep (Finset.Ico 0 40) fun n => dutyTok ER (cell c .send) n 0)
      ∗ (bigSep (Finset.Ico 0 40) fun n => dutyTok ER (cell (mateOf n c) (.ready (ex n))) (ackRound n) 0)
      ∗ (dutyTok ER (cell (peer 0 c) .bar) 0 0 ∗ dutyTok ER (cell (peer 1 c) .bar) 0 1 ∗ dutyTok ER (cell (peer 2 c) .bar) 0 2 ∗ dutyTok ER (cell (peer 3 c) .bar) 0 3)) := by
  unfold toks
  rw [over_exchanges fun n => iprop(dutyTok ER (cell (mateOf n c) .recv) n 0 ∗ dutyTok ER (cell c .send) n 0
    ∗ dutyTok ER (cell (mateOf n c) (.ready (ex n))) (ackRound n) 0 ∗ dutyTok ER (tokCell c n 3) (n / 4) (tokDuty n 3))]
  rw [bigSep_sep', bigSep_sep', bigSep_sep']
  iintro ⟨H1, H2, H3, H4⟩
  isplitl [H1]; · iexact H1
  isplitl [H2]; · iexact H2
  isplitl [H3]; · iexact H3
  iapply (first_four (F := F) fun n => dutyTok ER (tokCell c n 3) (n / 4) (tokDuty n 3))
  iexact H4

theorem start_hold (c : Dev nD) :
    iprop(start m c ∗ ∃ f, bufPts c f) ⊢ (iprop((∃ K, hold (blockAt m) K c 0) ∗ barRes c) : sProp 𝕄) := by
  unfold start holding hold barRes
  rw [show (fun n' => stepRes (F := F) c n') = fun n' => iprop(dutyTok ER (cell (mateOf n' c) .recv) n' 0 ∗ dutyTok ER (cell c .send) n' 0
      ∗ dutyTok ER (cell (mateOf n' c) (.ready (ex n'))) (ackRound n') 0
      ∗ (cred (tallyAt (cell c .recv) n' N) ∗ cred (if n' = 0 then 0 else tallyAt (cell c (.ready (ex n'))) n' 1))) from rfl,
    over_roles, bigSep_sep' _ (fun n' => dutyTok ER (cell (mateOf n' c) .recv) n' 0), bigSep_sep' _ (fun n' => dutyTok ER (cell c .send) n' 0),
    bigSep_sep' _ (fun n' => dutyTok ER (cell (mateOf n' c) (.ready (ex n'))) (ackRound n') 0)]
  iintro ⟨⟨⟨%K, #HR, ⟨HB, HS, HV, HA⟩, Htok⟩, Hlev, Hc4, Hcs⟩, Hb⟩
  ihave Ht := (toks_split (F := F) c) $$ Htok
  icases Ht with ⟨H1, H2, H3, H4⟩
  isplitr [HB Hc4 H4]
  · iexists K
    isplitr; · iexact HR
    isplitl [Hlev]; · iexact Hlev
    isplitl [HS]; · iexact HS
    isplitr; · iapply (records_reached (blockAt m) K c .send); iexact HR
    isplitl [HV]; · iexact HV
    isplitr; · iapply (records_reached (blockAt m) K c .recv); iexact HR
    isplitl [HA]
    · iapply (show iprop(records (blockAt m) K ∗ bigSep Finset.univ fun e : Fin 4 => atPos ER (cell c (.ready e)) 0 ∅ 0)
          ⊢ (bigSep Finset.univ fun e => ackAt c 0 e : sProp 𝕄) from
        (sep_mono_left (BI.bigSep_of_persistent Finset.univ (records (blockAt m) K))).trans (by
          rw [← bigSep_sep']
          exact bigSep_mono fun e _ => show iprop(records (blockAt m) K ∗ atPos ER (cell c (.ready e)) 0 ∅ 0) ⊢ ackAt c 0 e from by
            unfold ackAt
            iintro ⟨HR, Ha⟩
            isplitl [Ha]; · iexact Ha
            iapply (records_reached (blockAt m) K (peer e c) (.ready e)); iexact HR))
      isplitr; · iexact HR
      iexact HA
    isplitl [H1 H2 H3 Hcs]
    · isplitl [H1]; · iexact H1
      isplitl [H2]; · iexact H2
      isplitl [H3] <;> iassumption
    iexact Hb
  · isplitl [HB]; · iexact HB
    isplitl [Hc4] <;> iassumption

theorem start_intro (c : Dev nD) :
    iprop(Pipeline.unscopedRestP Pipeline.Prefetch.none cfg0.spec c (fun b => m ((c : Thread nD τ).loc b)) ∗ levAts idx lev
        ∗ Pipeline.launchCred owedStart c ∗ prngReg c (ρ c) ∗ ∃ K, holding (blockAt m) K c)
      ⊢ |={Set.univ}=> iprop(start m c ∗ emp) := by
  iintro ⟨-, Hlev, Hcr, -, HG⟩
  ihave Hc := (credit_all (F := F) c) $$ Hcr
  icases Hc with ⟨H1, HN⟩
  imodintro
  unfold start
  isplitl
  · isplitl [HG]; · iexact HG
    isplitl [Hlev]; · iexact Hlev
    isplitl [H1] <;> iassumption
  · iempintro

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = keep0 m c from rfl, scopedRest0_eq]
  unfold keep0
  iintro ⟨Hs, -, ⟨%f, Hf⟩, ⟨%g, Hg⟩⟩
  ihave H := (start_hold m c) $$ [Hs Hg]
  · isplitl [Hs]; · iexact Hs
    iexists g; rw [bufPts_eq]; iexact Hg
  icases H with ⟨H1, H2⟩
  isplitl [H1]; · iexact H1
  isplitl [H2]; · iexact H2
  iexists f; rw [sndPts_eq]; iexact Hf

theorem leave (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = keepEnd c from rfl, scopedRest0_eq, own_eq, unscoped_eq]
  unfold keepEnd zeroed
  iintro ⟨⟨%f, Hf⟩, ⟨%g, Hg⟩, HB, HS, HV, HA⟩
  isplitl [HB]; · iexact HB
  isplitl [HS HV HA]
  · isplitl [HS]; · iexact HS
    isplitl [HV] <;> iassumption
  isplitl [Hf]
  · iexists f; rw [← sndPts_eq]; iexact Hf
  · iexists g; rw [← bufPts_eq]; iexact Hg

theorem share_eq (c : Dev nD) (w : Fin cfg0.W) : (dats m 0 c).share w = fullShare := by unfold Dat.share; split <;> rfl

/-- The pipeline's own waits are allowed under whatever a device owes. -/
theorem waits (c : Dev nD) : (levAts idx lev : sProp 𝕄) ⊢ Pipeline.cellsWaits cfgs (dats m) 0 0 c :=
  Pipeline.cellsWaits_intro cfgs (dats m) 0 0 c fun w s t => by
    have h0 : lev ((c : Thread nD τ), .dma ((cfg0.win w).sem s)) 0 = 0 := by
      have : roleOf (.dma ((cfg0.win w).sem s)) = none := by fin_cases w <;> fin_cases s <;> decide
      unfold lev; rw [this]
    show (levAts idx lev : sProp 𝕄) ⊢ MayWait (c : Thread nD τ) (.dma ((cfg0.win w).sem s)) 0 (owing c t.val)
    unfold owing
    split
    · refine mayWait_below c _ (by decide) _ fun g i hg => ?_
      rw [h0]
      have hbar : ∀ e, 0 < barOwed c e g i → i ∈ idx g ∧ 0 < lev g i := fun e he => by
        obtain ⟨rfl, rfl⟩ := tallyAt_pos he
        exact ⟨mem_idx _ _ (by decide), by rw [lev_bar]; decide⟩
      unfold owedStart at hg
      rcases add_pos_or hg with hg | hg
      · rcases add_pos_or hg with hg | hg
        · rcases add_pos_or hg with hg | hg
          · rcases add_pos_or hg with hg | hg
            · obtain ⟨h1, h2, rfl | rfl⟩ := owedFrom_pos hg
              · exact ⟨mem_idx _ _ h2, by rw [lev_recv]; omega⟩
              · exact ⟨mem_idx _ _ h2, by rw [lev_ready]; omega⟩
            · exact hbar _ hg
          · exact hbar _ hg
        · exact hbar _ hg
      · exact hbar _ hg
    · exact mayWait_from c _ (by decide) (by rw [h0]; omega)

/-! ## The run -/

/-- The state at launch. -/
abbrev launch : MemSt nD τ sig (Elt F) := ⟨m, fun _ => 0, ρ⟩

/-- What an array holds after the run. -/
def ends (c : Dev nD) (w : Fin cfg0.W) : Buf (Elt F) ((cfg0.win w).arr.view.loc (c : Thread nD τ)) := (dats m 0 c).arrAt w cfg0.N

set_option maxRecDepth 8000 in
/-- Every fair execution of the kernel on all devices ends, every array at its computed contents and every semaphore at zero. -/
theorem run_main : θ_run defs (onTc (τ := τ) (main (F := F))) (launch m ρ)
    (fun r => (∀ c : Dev nD, ∀ w : Fin cfg0.W, r.2.mem ((cfg0.win w).arr.view.loc (c : Thread nD τ)) = ends m c w) ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := owedStart) (howed₀ := fun _ => rfl) (howedN := fun c => owedFrom_end c)
    (L := idx) (lv := lev) (hL := idx_of_ne) (hwaits := waits m)
    (G := dealt (blockAt m)) (G' := fun c => iprop(∃ K, holding (blockAt m) K c)) (u₀ := u₀)
    (hu₀ := by
      unfold u₀
      iintro Hu
      ihave H := (ownU_pair _ _) $$ Hu
      icases H with ⟨HP, HX⟩
      imod (deal (blockAt m)) $$ HX with HG
      imodintro
      isplitl [HP] <;> iassumption)
    (hglob := set_up (blockAt m))
    (hA := fun _ _ => rfl) (hpf := fun _ k => k.elim0)
    (X := start m) (Y := fun c => unscopedSems0 c) (Z := fun _ => iprop(emp))
    (hX := start_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument's array is unchanged. -/
theorem ends_arg (c : Dev nD) : ends m c (0 : Fin 2) = m ((c : Thread nD τ).loc main_arg0) := (dats m 0 c).arrAt_in (0 : Fin 2) rfl _

end Cert.KernelIdeal

end
-- ==== Proof.Frames.lean ====
/-
  The kernel's frame, at either printing of the module.
-/
module

public import proofs.«01_k».proof.Proof.Run
public import proofs.«01_k».proof.Proof.Gen.Kernel
public import proofs.«01_k».proof.Defs

@[expose] public section

noncomputable section

namespace Cert.Proof

open Idealize.ShloMosaic Idealize.ShloMosaic.TcCoe

/-- The idealized module's frame, at any float values. -/
theorem frame_any {F : FTy → Type} [FloatOps F] (m : (ℓ : Loc Cert.KernelIdeal.nD Cert.KernelIdeal.τ Cert.KernelIdeal.sig) → Buf (Elt F) ℓ) (g : Dev Cert.KernelIdeal.nD → PrngReg) :
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
        ∧ r.2.sem = fun _ => 0) :=
  (θ_run (Cert.KernelIdeal.defs (F := F)) _ _).mono (fun r h => ⟨fun c => (h.1 c (0 : Fin 2)).trans (Cert.KernelIdeal.ends_arg m c), h.2⟩) (Cert.KernelIdeal.run_main m g)

theorem frame_idealized : Cert.quiescent_KernelIdeal := fun m g _ => frame_any m g

/-- The two printings are one program. -/
theorem same_frame : Cert.quiescent_Kernel
    = ∀ (m : (ℓ : Loc Cert.KernelIdeal.nD Cert.KernelIdeal.τ Cert.KernelIdeal.sig) → Buf (Elt Bits) ℓ) (g : Dev Cert.KernelIdeal.nD → PrngReg), True →
      θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
        ∧ r.2.sem = fun _ => 0) := by
  sl_kernel_rfl

theorem frame_kernel : Cert.quiescent_Kernel := same_frame ▸ fun m g _ => frame_any m g

end Cert.Proof

end
-- ==== Proof.StageAt.lean ====
/-
  The local stages read at one entry: what an entry becomes is the lesser or the greater of itself and the entry at the stage's distance, in the
  same column.
-/
module

public import proofs.«01_k».proof.Proof.Stages
public import Idealize.ShloMosaic.Lib.Pointwise
public import Idealize.ShloMosaic.Lib.SortNet.Bitonic
public import Idealize.ShloMosaic.Lib.SortNet.Printed

@[expose] public section

noncomputable section

namespace Cert.Net

open Idealize.ShloMosaic
open Idealize.ShloMosaic.Pointwise

/-! ## Bits of row numbers -/

theorem and_pow_iff (n l : ℕ) : n &&& 2 ^ l = 0 ↔ n / 2 ^ l % 2 = 0 := by
  rw [SortNet.and_two_pow_eq_zero_iff_testBit, Nat.testBit_eq_decide_div_mod_eq]
  have := Nat.mod_lt (n / 2 ^ l) (show 0 < 2 by decide)
  simp only [decide_eq_false_iff_not]
  omega

/-- Rows of one group of `2 ^ (s + 1)` rows agree in the higher bits. -/
theorem and_pow_group {n b s l : ℕ} (hb : b < 2 ^ (s + 1)) (hn : 2 ^ (s + 1) ∣ n) (h : s < l) :
    (n + b) &&& 2 ^ l = 0 ↔ n &&& 2 ^ l = 0 := by
  obtain ⟨d, rfl⟩ : ∃ d, l = s + 1 + d := ⟨l - (s + 1), by omega⟩
  obtain ⟨a, rfl⟩ := hn
  rw [and_pow_iff, and_pow_iff, pow_add 2 (s + 1) d, ← Nat.div_div_eq_div_mul, ← Nat.div_div_eq_div_mul,
    Nat.mul_add_div (Nat.two_pow_pos _), Nat.div_eq_of_lt hb, Nat.mul_div_cancel_left _ (Nat.two_pow_pos _), Nat.add_zero]

theorem xor_pow (r s : ℕ) : r ^^^ 2 ^ s = if r &&& 2 ^ s = 0 then r + 2 ^ s else r - 2 ^ s := by
  by_cases h : r &&& 2 ^ s = 0
  · rw [if_pos h, SortNet.xor_two_pow_of_clear r s h]
  · rw [if_neg h]
    have h1 : (r ^^^ 2 ^ s) &&& 2 ^ s = 0 := by
      rw [SortNet.and_two_pow_eq_zero_iff_testBit] at h ⊢
      rw [Nat.testBit_xor, Nat.testBit_two_pow_self, Bool.eq_true_of_not_eq_false h]
      rfl
    have h2 := SortNet.xor_two_pow_of_clear _ s h1
    rw [Nat.xor_assoc, Nat.xor_self, Nat.xor_zero] at h2
    omega

theorem ofNat_and (n m : ℕ) : BitVec.ofNat 32 n &&& BitVec.ofNat 32 m = BitVec.ofNat 32 (n &&& m) := by
  apply BitVec.eq_of_toNat_eq
  simp only [BitVec.toNat_and, BitVec.toNat_ofNat]
  exact (Nat.and_mod_two_pow ..).symm

theorem ofNat_eq_zero {n : ℕ} (h : n < 2 ^ 32) : BitVec.ofNat 32 n = 0#32 ↔ n = 0 := by
  constructor
  · intro e
    have := congrArg BitVec.toNat e
    rwa [BitVec.toNat_ofNat, BitVec.toNat_ofNat, Nat.mod_eq_of_lt h, Nat.zero_mod] at this
  · rintro rfl; rfl

theorem clear_word {n m : ℕ} (h : n < 2 ^ 32) :
    IntOp.cmpi .eq (IntOp.andi (BitVec.ofNat 32 n) (BitVec.ofNat 32 m)) 0#32 = BitVec.ofBool (decide (n &&& m = 0)) := by
  have e := ofNat_and n m
  have z := ofNat_eq_zero (lt_of_le_of_lt (Nat.and_le_left (m := m)) h)
  show BitVec.ofBool (BitVec.ofNat 32 n &&& BitVec.ofNat 32 m == 0#32) = _
  rw [e]
  congr 1
  by_cases hz : n &&& m = 0
  · rw [z.mpr hz]; simp [hz]
  · rw [decide_eq_false hz, beq_eq_false_iff_ne]; exact fun e => hz (z.mp e)

theorem set_word {n m : ℕ} (h : n < 2 ^ 32) :
    IntOp.cmpi .ne (IntOp.andi (BitVec.ofNat 32 n) (BitVec.ofNat 32 m)) 0#32 = BitVec.ofBool (!decide (n &&& m = 0)) := by
  have e := ofNat_and n m
  have z := ofNat_eq_zero (lt_of_le_of_lt (Nat.and_le_left (m := m)) h)
  show BitVec.ofBool (BitVec.ofNat 32 n &&& BitVec.ofNat 32 m != 0#32) = _
  rw [e]
  congr 1
  by_cases hz : n &&& m = 0
  · rw [z.mpr hz]; simp [hz]
  · rw [decide_eq_false hz, Bool.not_false, bne_iff_ne]; exact fun e => hz (z.mp e)

/-! ## The comparison -/

/-- What position `n` is left with by the exchange at distance `2 ^ s` of level `l`, of its own entry and its partner's. -/
def pick (l s n : ℕ) (a b : EReal) : EReal := if decide (n &&& 2 ^ l = 0) = decide (n &&& 2 ^ s = 0) then min a b else max a b

/-! ## The short distances -/

/-- A row's flag, read at any of its columns. -/
theorem spread_at (x : IVec Col 1) (r : Fin 4096) (q : Fin 256) : spread x (ix2 r q) = x (ix2 r 0) := by
  unfold spread
  pointwise

theorem rowNo_at (c : ℕ) (r : Fin 4096) : rowNo (BitVec.ofNat 32 c) (ix2 r 0) = BitVec.ofNat 32 (c + r.val) := by
  unfold rowNo
  pointwise
  exact (BitVec.ofNat_add ..).symm

theorem bitClear_at {c : ℕ} (l : ℕ) (r : Fin 4096) (h : c + r.val < 2 ^ 32) :
    bitClear (BitVec.ofNat 32 c) (BitVec.ofNat 32 (2 ^ l)) (ix2 r 0) = BitVec.ofBool (decide ((c + r.val) &&& 2 ^ l = 0)) := by
  rw [← clear_word h, ← rowNo_at]; rfl

theorem bitSet_at {c : ℕ} (l : ℕ) (r : Fin 4096) (h : c + r.val < 2 ^ 32) :
    bitSet (BitVec.ofNat 32 c) (BitVec.ofNat 32 (2 ^ l)) (ix2 r 0) = BitVec.ofBool (!decide ((c + r.val) &&& 2 ^ l = 0)) := by
  rw [← set_word h, ← rowNo_at]; rfl

theorem rollUp_at (j b : ℕ) (h : j + b = 4096) (x : FVec Ideal Blk .f32) (r r' : Fin 4096) (q : Fin 256) (hr : r'.val = r.val + j) :
    rollUp j b h x (ix2 r q) = x (ix2 r' q) := by
  unfold rollUp
  refine (concatenate_pair_apply_left (t := Blk) (s₁ := Rows b) (s₂ := Rows j) 0 _ _ _ (ix2 r q) rfl (ix2 (⟨r.val, by omega⟩ : Fin b) q)
    (fun z => by fin_cases z <;> rfl)).trans ?_
  exact extractStridedSlice_apply _ _ _ _ _ fun z => by fin_cases z <;> simp <;> omega

theorem rollDown_at (j b : ℕ) (h : j + b = 4096) (x : FVec Ideal Blk .f32) (r r' : Fin 4096) (q : Fin 256) (hr : r'.val + j = r.val) :
    rollDown j b h x (ix2 r q) = x (ix2 r' q) := by
  unfold rollDown
  refine (concatenate_pair_apply_right (t := Blk) (s₁ := Rows j) (s₂ := Rows b) 0 _ _ _ (ix2 r q) rfl rfl
    (ix2 (⟨r'.val, by omega⟩ : Fin b) q) (fun z hz => by fin_cases z <;> first | rfl | exact absurd rfl hz) hr).trans ?_
  exact extractStridedSlice_apply _ _ _ _ _ fun z => by fin_cases z <;> simp

/-- A bit below the twelfth is a bit of the row's number in its block. -/
theorem and_pow_block {c r s : ℕ} (hs : s < 12) (hc : 4096 ∣ c) : (c + r) &&& 2 ^ s = 0 ↔ r &&& 2 ^ s = 0 := by
  obtain ⟨d, rfl⟩ := hc
  have e : 4096 * d + r = 2 ^ s * (2 * (2 ^ (11 - s) * d)) + r := by
    have : (4096 : ℕ) = 2 ^ s * (2 * 2 ^ (11 - s)) := by
      rw [← Nat.pow_succ', ← pow_add, show s + (11 - s).succ = 12 by omega]; rfl
    rw [this]; ring
  rw [and_pow_iff, and_pow_iff, e, Nat.mul_add_div (Nat.two_pow_pos s)]
  omega

theorem smallStage_at {j b : ℕ} (h : j + b = 4096) {c l s : ℕ} (hj : j = 2 ^ s) (hs : s < 12) (hc : 4096 ∣ c) (hc' : c < 2 ^ 16)
    (x : FVec Ideal Blk .f32) (r r' : Fin 4096) (q : Fin 256) (hr : r'.val = r.val ^^^ 2 ^ s) :
    smallStage j b h (BitVec.ofNat 32 c) (BitVec.ofNat 32 (2 ^ l)) (BitVec.ofNat 32 j) x (ix2 r q)
      = pick l s (c + r.val) (x (ix2 r q)) (x (ix2 r' q)) := by
  subst hj
  have hn : c + r.val < 2 ^ 32 := by omega
  have hb : (c + r.val) &&& 2 ^ s = 0 ↔ r.val &&& 2 ^ s = 0 := and_pow_block hs hc
  have hm : mate (2 ^ s) b h (BitVec.ofNat 32 c) (BitVec.ofNat 32 (2 ^ s)) x (ix2 r q) = x (ix2 r' q) := by
    show Scalar.select (spread _ _) _ _ = _
    rw [spread_at, bitSet_at s r hn, SortNet.select_ofBool]
    have e := xor_pow r.val s
    by_cases hz : (c + r.val) &&& 2 ^ s = 0
    · rw [if_neg (by simp [hz])]
      rw [if_pos (hb.mp hz)] at e
      exact rollUp_at _ _ h x r r' q (hr.trans e)
    · rw [if_pos (by simp [hz])]
      have hz' := mt hb.mpr hz
      rw [if_neg hz'] at e
      have hle : 2 ^ s ≤ r.val := by
        by_contra hlt
        exact hz' ((and_pow_iff ..).mpr (by rw [Nat.div_eq_of_lt (by omega)]))
      exact rollDown_at _ _ h x r r' q (by omega)
  show Scalar.select (spread _ _) (min _ _) (max _ _) = _
  rw [spread_at, hm]
  show Scalar.select (IntOp.xori (bitClear _ _ _) (bitSet _ _ _)) _ _ = _
  rw [bitClear_at l r hn, bitSet_at s r hn, SortNet.ofBool_xor, SortNet.select_ofBool]
  unfold pick
  cases decide ((c + r.val) &&& 2 ^ l = 0) <;> cases decide ((c + r.val) &&& 2 ^ s = 0) <;> rfl

/-! ## The long distances -/

theorem cut_at {A B : ℕ} (h : A * (2 * B) = 4096) (x : FVec Ideal Blk .f32) (a : Fin A) (b : Fin (2 * B)) (q : Fin 256) (r : Fin 4096)
    (hr : r.val = a.val * (2 * B) + b.val) : shapeCast (Cut A (2 * B)) x (cut_numel h) (ix3 a b q) = x (ix2 r q) := by
  apply Idealize.ShloMosaic.shapeCast_apply
  rw [Shape.rowMajor_val_two, Shape.rowMajor_val_three]
  show r.val * 256 + q.val = (a.val * (2 * B) + b.val) * 256 + q.val
  rw [hr]

theorem lowHalf_at {A B : ℕ} (h : A * (2 * B) = 4096) (x : FVec Ideal Blk .f32) (a : Fin A) (b : Fin B) (q : Fin 256) (r : Fin 4096)
    (hr : r.val = a.val * (2 * B) + b.val) : lowHalf A B h x (ix3 a b q) = x (ix2 r q) := by
  unfold lowHalf
  rw [extractStridedSlice_apply _ _ _ _ (ix3 a ⟨b.val, by omega⟩ q) (fun z => by fin_cases z <;> simp)]
  exact cut_at h x a _ q r hr

theorem highHalf_at {A B : ℕ} (h : A * (2 * B) = 4096) (x : FVec Ideal Blk .f32) (a : Fin A) (b : Fin B) (q : Fin 256) (r : Fin 4096)
    (hr : r.val = a.val * (2 * B) + (B + b.val)) : highHalf A B h x (ix3 a b q) = x (ix2 r q) := by
  unfold highHalf
  rw [extractStridedSlice_apply _ _ _ _ (ix3 a ⟨B + b.val, by omega⟩ q) (fun z => by fin_cases z <;> simp)]
  exact cut_at h x a _ q r hr

theorem groupSpread_at {A B : ℕ} (x : IVec (CutCol A) 1) (a : Fin A) (b : Fin B) (q : Fin 256) :
    groupSpread A B x (ix3 a b q) = x (ix3 a 0 0) := by
  unfold groupSpread
  rw [shapeCast_self]
  refine broadcastTo_apply _ _ _ _ fun z => ?_
  fin_cases z
  · show a.val = if A = 1 then 0 else a.val
    split
    · omega
    · rfl
  · rfl
  · rfl

theorem groupClear_at {A c l w : ℕ} (a : Fin A) (h : c + a.val * w < 2 ^ 32) :
    groupClear A (BitVec.ofNat 32 c) (BitVec.ofNat 32 (2 ^ l)) (BitVec.ofNat 32 w) (ix3 a 0 0)
      = BitVec.ofBool (decide ((c + a.val * w) &&& 2 ^ l = 0)) := by
  rw [← clear_word h]
  unfold groupClear
  pointwise
  rw [BitVec.ofNat_add, BitVec.ofNat_mul]
  rfl

theorem bigStage_at {A B : ℕ} (h : A * (2 * B) = 4096) {c l s : ℕ} (hB : B = 2 ^ s) (hs : s < l) (hc : 4096 ∣ c) (hc' : c < 2 ^ 16)
    (x : FVec Ideal Blk .f32) (r r' : Fin 4096) (q : Fin 256) (hr : r'.val = r.val ^^^ 2 ^ s) :
    bigStage A B h (BitVec.ofNat 32 c) (BitVec.ofNat 32 (2 ^ l)) (BitVec.ofNat 32 (2 * B)) x (ix2 r q)
      = pick l s (c + r.val) (x (ix2 r q)) (x (ix2 r' q)) := by
  have hB0 : 0 < B := hB ▸ Nat.two_pow_pos s
  have hp : 2 ^ (s + 1) = 2 * B := by rw [hB, Nat.pow_succ']
  have hdvd : 2 * B ∣ c := (Dvd.intro_left A h).trans hc
  -- the row as a row of a group
  obtain ⟨a, ha⟩ : ∃ a : Fin A, a.val = r.val / (2 * B) :=
    ⟨⟨r.val / (2 * B), Nat.div_lt_of_lt_mul (by rw [Nat.mul_comm, h]; exact r.isLt)⟩, rfl⟩
  obtain ⟨b, hb⟩ : ∃ b : Fin (2 * B), b.val = r.val % (2 * B) := ⟨⟨r.val % (2 * B), Nat.mod_lt _ (by omega)⟩, rfl⟩
  have hrab : r.val = a.val * (2 * B) + b.val := by rw [ha, hb, Nat.mul_comm]; exact (Nat.div_add_mod ..).symm
  -- the direction is the group's
  have hdir : (c + r.val) &&& 2 ^ l = 0 ↔ (c + a.val * (2 * B)) &&& 2 ^ l = 0 := by
    rw [hrab, ← Nat.add_assoc]
    exact and_pow_group (by rw [hp]; exact b.isLt) (by rw [hp]; exact hdvd.add (Dvd.intro_left _ rfl)) hs
  have hlt : c + a.val * (2 * B) < 2 ^ 32 := by have := r.isLt; omega
  have hlow : (c + r.val) &&& 2 ^ s = 0 ↔ b.val < B := by
    obtain ⟨d, rfl⟩ := hdvd
    rw [and_pow_iff, hrab, show 2 * B * d + (a.val * (2 * B) + b.val) = B * (2 * (d + a.val)) + b.val by ring, ← hB,
      Nat.mul_add_div hB0]
    by_cases hbB : b.val < B
    · rw [Nat.div_eq_of_lt hbB]; omega
    · rw [show b.val / B = 1 from Nat.div_eq_of_lt_le (by omega) (by have := b.isLt; omega)]; omega
  have hx := xor_pow r.val s
  have hlow' : r.val &&& 2 ^ s = 0 ↔ b.val < B := by
    rw [← hlow, and_pow_iff, and_pow_iff]
    obtain ⟨d, rfl⟩ := hdvd
    rw [show 2 * B * d + r.val = B * (2 * d) + r.val by ring, ← hB, Nat.mul_add_div hB0]
    omega
  unfold bigStage
  rw [Idealize.ShloMosaic.shapeCast_apply _ _ _ (ix3 a b q) (by
    rw [Shape.rowMajor_val_two, Shape.rowMajor_val_three]
    show (a.val * (2 * B) + b.val) * 256 + q.val = r.val * 256 + q.val
    rw [hrab])]
  by_cases hbB : b.val < B
  · rw [if_pos (hlow'.mpr hbB)] at hx
    refine (concatenate_pair_apply_left (t := Cut A (2 * B)) (s₁ := Cut A B) (s₂ := Cut A B) 1 _ _ _ (ix3 a b q) rfl
      (ix3 a (⟨b.val, hbB⟩ : Fin B) q) (fun z => by fin_cases z <;> rfl)).trans ?_
    show Scalar.select (groupSpread _ _ _ _) (min (lowHalf _ _ _ _ _) (highHalf _ _ _ _ _)) (max (lowHalf _ _ _ _ _) (highHalf _ _ _ _ _)) = _
    rw [groupSpread_at, groupClear_at a hlt, lowHalf_at h x a ⟨b.val, hbB⟩ q r hrab,
      highHalf_at h x a ⟨b.val, hbB⟩ q r' (by show r'.val = _ + (B + b.val); omega), SortNet.select_ofBool]
    unfold pick
    rw [decide_eq_true (hlow.mpr hbB), decide_eq_decide.mpr hdir]
  · rw [if_neg (mt hlow'.mp hbB)] at hx
    have hlt' : b.val - B < B := by have := b.isLt; omega
    refine (concatenate_pair_apply_right (t := Cut A (2 * B)) (s₁ := Cut A B) (s₂ := Cut A B) 1 _ _ _ (ix3 a b q) rfl rfl
      (ix3 a (⟨b.val - B, hlt'⟩ : Fin B) q) (fun z hz => by fin_cases z <;> first | rfl | exact absurd rfl hz)
      (by show b.val - B + B = b.val; omega)).trans ?_
    show Scalar.select (groupSpread _ _ _ _) (max (lowHalf _ _ _ _ _) (highHalf _ _ _ _ _)) (min (lowHalf _ _ _ _ _) (highHalf _ _ _ _ _)) = _
    rw [groupSpread_at, groupClear_at a hlt, lowHalf_at h x a ⟨b.val - B, hlt'⟩ q r' (by show r'.val = _ + (b.val - B); omega),
      highHalf_at h x a ⟨b.val - B, hlt'⟩ q r (by show r.val = _ + (B + (b.val - B)); omega), SortNet.select_ofBool]
    unfold pick
    rw [decide_eq_false (mt hlow.mp hbB), decide_eq_decide.mpr hdir, max_comm, min_comm]
    cases decide ((c + a.val * (2 * B)) &&& 2 ^ l = 0) <;> rfl

/-! ## Every local stage -/

theorem localStage_at {c l s : ℕ} (hs : s < 12) (hl : s < l) (hc : 4096 ∣ c) (hc' : c < 2 ^ 16)
    (x : FVec Ideal Blk .f32) (r r' : Fin 4096) (q : Fin 256) (hr : r'.val = r.val ^^^ 2 ^ s) :
    localStage l (BitVec.ofNat 32 c) s x (ix2 r q) = pick l s (c + r.val) (x (ix2 r q)) (x (ix2 r' q)) := by
  match s, hs, hl, hr with
  | 0, hs, hl, hr => exact smallStage_at rfl rfl hs hc hc' x r r' q hr
  | 1, hs, hl, hr => exact smallStage_at rfl rfl hs hc hc' x r r' q hr
  | 2, hs, hl, hr => exact smallStage_at rfl rfl hs hc hc' x r r' q hr
  | 3, hs, hl, hr => exact bigStage_at rfl rfl hl hc hc' x r r' q hr
  | 4, hs, hl, hr => exact bigStage_at rfl rfl hl hc hc' x r r' q hr
  | 5, hs, hl, hr => exact bigStage_at rfl rfl hl hc hc' x r r' q hr
  | 6, hs, hl, hr => exact bigStage_at rfl rfl hl hc hc' x r r' q hr
  | 7, hs, hl, hr => exact bigStage_at rfl rfl hl hc hc' x r r' q hr
  | 8, hs, hl, hr => exact bigStage_at rfl rfl hl hc hc' x r r' q hr
  | 9, hs, hl, hr => exact bigStage_at rfl rfl hl hc hc' x r r' q hr
  | 10, hs, hl, hr => exact bigStage_at rfl rfl hl hc hc' x r r' q hr
  | 11, hs, hl, hr => exact bigStage_at rfl rfl hl hc hc' x r r' q hr

end Cert.Net

end
-- ==== Proof.Columns.lean ====
/-
  One column of the whole array, across the devices: each stage the devices run, on their own blocks or with a partner's, is one stage of the
  bitonic sorting network on the column's 65536 entries, and together they are the network.
-/
module

public import proofs.«01_k».proof.Proof.StageAt
public import proofs.«01_k».proof.Proof.Cells
public import Idealize.ShloMosaic.Lib.SortNet.Sorts

@[expose] public section

noncomputable section

namespace Cert.KernelIdeal

open Idealize.ShloMosaic
open Idealize.ShloMosaic.Pointwise
open Idealize.ShloMosaic.SortNet
open Cert.Net
open Facts₀ Facts

/-! ## One stage of the network -/

/-- The network's stage at distance `2 ^ s` of level `l`: runs of `2 ^ l` rows, ascending and descending in turn. -/
def netStage (l s : ℕ) : Network (2 ^ 16) := stage 16 s fun i => decide (i.val &&& 2 ^ l = 0) == false

/-- Changing one bit leaves the others. -/
theorem xor_and_other {i s l : ℕ} (h : s ≠ l) : (i ^^^ 2 ^ s) &&& 2 ^ l = 0 ↔ i &&& 2 ^ l = 0 := by
  rw [and_two_pow_eq_zero_iff_testBit, and_two_pow_eq_zero_iff_testBit, Nat.testBit_xor, Nat.testBit_two_pow_of_ne h, Bool.xor_false]

theorem netStage_at {l s : ℕ} (hs : s < 16) (h : s < l) (v : Fin (2 ^ 16) → EReal) (i : Fin (2 ^ 16)) :
    Network.apply (netStage l s) v i = pick l s i.val (v i) (v (partner 16 s i)) := by
  unfold netStage pick
  by_cases hi : i.val &&& 2 ^ s = 0
  · rw [(apply_stage hs _ v i hi).1, decide_eq_true hi]
    cases decide (i.val &&& 2 ^ l = 0) <;> rfl
  · have hj := partner_and_of_set hs i hi
    have e := (apply_stage hs (fun i => decide (i.val &&& 2 ^ l = 0) == false) v (partner 16 s i) hj).2
    rw [partner_partner hs] at e
    rw [e, decide_eq_false hi, partner_val hs, decide_eq_decide.mpr (xor_and_other h.ne), max_comm, min_comm]
    cases decide (i.val &&& 2 ^ l = 0) <;> rfl

/-! ## A column across the devices -/

/-- Which device holds row `i` of the whole array. -/
def holder (i : Fin (2 ^ 16)) : Dev nD := ⟨i.val / 4096, Nat.div_lt_of_lt_mul i.isLt⟩
/-- Where in the device's block it is. -/
def place₀ (i : Fin (2 ^ 16)) : Fin 4096 := ⟨i.val % 4096, Nat.mod_lt _ (by decide)⟩

/-- Column `q` of the devices' blocks, one below the other. -/
def column (Y : Dev nD → FVec Ideal Blk .f32) (q : Fin 256) : Fin (2 ^ 16) → EReal := fun i => Y (holder i) (ix2 (place₀ i) q)

theorem devNo_eq : ∀ c : Dev nD, devNo c = BitVec.ofNat 32 c.val := by decide +kernel
theorem firstRow_eq : ∀ c : Dev nD, firstRow c = BitVec.ofNat 32 (4096 * c.val) := by decide +kernel

theorem holder_lt (i : Fin (2 ^ 16)) : (holder i).val < 16 := (holder i).isLt

theorem row_eq (i : Fin (2 ^ 16)) : 4096 * (holder i).val + (place₀ i).val = i.val := Nat.div_add_mod ..

theorem column_local {l s : ℕ} (hs : s < 12) (hl : s < l) (Y : Dev nD → FVec Ideal Blk .f32) (q : Fin 256) :
    column (fun c => localStage l (firstRow c) s (Y c)) q = Network.apply (netStage l s) (column Y q) := by
  funext i
  have hp := partner_val (p := 16) (s := s) (by omega) i
  have h4096 : (4096 : ℕ) = 2 ^ 12 := rfl
  have hlt : 2 ^ s < 2 ^ 12 := Nat.pow_lt_pow_right (by decide) hs
  have h1 : holder (partner 16 s i) = holder i := by
    apply Fin.ext
    show (partner 16 s i).val / 4096 = i.val / 4096
    rw [hp, h4096, Nat.xor_div_two_pow, Nat.div_eq_of_lt hlt, Nat.xor_zero]
  have h2 : (place₀ (partner 16 s i)).val = (place₀ i).val ^^^ 2 ^ s := by
    show (partner 16 s i).val % 4096 = i.val % 4096 ^^^ 2 ^ s
    rw [hp, h4096, Nat.xor_mod_two_pow, Nat.mod_eq_of_lt hlt]
  rw [netStage_at (by omega) hl]
  show localStage l (firstRow (holder i)) s (Y (holder i)) (ix2 (place₀ i) q)
    = pick l s i.val (Y (holder i) (ix2 (place₀ i) q)) (Y (holder (partner 16 s i)) (ix2 (place₀ (partner 16 s i)) q))
  rw [firstRow_eq, localStage_at hs hl ⟨_, rfl⟩ (by have := holder_lt i; omega) _ (place₀ i) (place₀ (partner 16 s i)) q h2, row_eq, h1]

theorem column_combine {l e : ℕ} (he : e < 4) (hl : 12 + e < l) (Y : Dev nD → FVec Ideal Blk .f32) (q : Fin 256) :
    column (fun c => combine l e (devNo c) (firstRow c) (Y c) (packed (Y (peer ⟨e, he⟩ c)))) q
      = Network.apply (netStage l (12 + e)) (column Y q) := by
  funext i
  have hp := partner_val (p := 16) (s := 12 + e) (by omega) i
  have h4096 : (4096 : ℕ) = 2 ^ 12 := rfl
  have hpow : 2 ^ (12 + e) = 2 ^ 12 * 2 ^ e := pow_add ..
  have h1 : holder (partner 16 (12 + e) i) = peer ⟨e, he⟩ (holder i) := by
    apply Fin.ext
    show (partner 16 (12 + e) i).val / 4096 = i.val / 4096 ^^^ 2 ^ e
    rw [hp, h4096, Nat.xor_div_two_pow, hpow, Nat.mul_div_cancel_left _ (Nat.two_pow_pos _)]
  have h2 : place₀ (partner 16 (12 + e) i) = place₀ i := by
    apply Fin.ext
    show (partner 16 (12 + e) i).val % 4096 = i.val % 4096
    rw [hp, h4096, Nat.xor_mod_two_pow, hpow, Nat.mul_mod_right, Nat.xor_zero]
  have hi := row_eq i
  have hc := holder_lt i
  have d1 : i.val &&& 2 ^ l = 0 ↔ (4096 * (holder i).val) &&& 2 ^ l = 0 := by
    rw [← hi]
    exact and_pow_group (s := 11) (place₀ i).isLt ⟨_, rfl⟩ (by omega)
  have d2 : i.val &&& 2 ^ (12 + e) = 0 ↔ (holder i).val &&& 2 ^ e = 0 := by
    rw [and_pow_iff, and_pow_iff, hpow, ← Nat.div_div_eq_div_mul]
    rfl
  rw [netStage_at (by omega) hl]
  show (Scalar.select (IntOp.xori (IntOp.cmpi .eq (IntOp.andi (firstRow (holder i)) (BitVec.ofNat 32 (2 ^ l))) 0#32)
      (IntOp.cmpi .ne (IntOp.andi (devNo (holder i)) (BitVec.ofNat 32 (2 ^ e))) 0#32))
      (minimumf (Y (holder i)) (extf .f32 (packed (Y (peer ⟨e, he⟩ (holder i)))) (by decide)))
      (maximumf (Y (holder i)) (extf .f32 (packed (Y (peer ⟨e, he⟩ (holder i)))) (by decide))) : FVec Ideal Blk .f32) (ix2 (place₀ i) q)
    = pick l (12 + e) i.val (Y (holder i) (ix2 (place₀ i) q)) (Y (holder (partner 16 (12 + e) i)) (ix2 (place₀ (partner 16 (12 + e) i)) q))
  rw [firstRow_eq, devNo_eq, clear_word (by omega), set_word (by omega), ofBool_xor, select_ofBool, h1, h2]
  unfold pick packed
  rw [shapeCast_self, decide_eq_decide.mpr d1, decide_eq_decide.mpr d2]
  cases decide ((4096 * (holder i).val) &&& 2 ^ l = 0) <;> cases decide ((holder i).val &&& 2 ^ e = 0) <;> rfl

/-! ## The levels -/

/-- The network's stages of level `l` at the distances `2 ^ (m - 1)` down to 1. -/
def netDown (l m : ℕ) : Network (2 ^ 16) := (List.range m).reverse.flatMap (netStage l)

theorem netDown_succ (l m : ℕ) : netDown l (m + 1) = netStage l m ++ netDown l m := by
  unfold netDown
  rw [List.range_succ, List.reverse_append, List.reverse_singleton, List.singleton_append, List.flatMap_cons]

theorem column_downTo {l m : ℕ} (hm : m ≤ 12) (hl : m ≤ l) (Y : Dev nD → FVec Ideal Blk .f32) (q : Fin 256) :
    column (fun c => downTo l (firstRow c) m (Y c)) q = Network.apply (netDown l m) (column Y q) := by
  induction m generalizing Y with
  | zero => rfl
  | succ m ih =>
    rw [netDown_succ, Network.apply_append, ← column_local (by omega) (by omega)]
    exact ih (by omega) (by omega) _

/-- The network's first `n` levels. -/
def netLevels (n : ℕ) : Network (2 ^ 16) := (List.range n).flatMap fun l => netDown (l + 1) (l + 1)

theorem netLevels_succ (n : ℕ) : netLevels (n + 1) = netLevels n ++ netDown (n + 1) (n + 1) := by
  unfold netLevels
  rw [List.range_succ, List.flatMap_append, List.flatMap_singleton]

theorem netLevels_all : netLevels 16 = sortNet 16 false := rfl

theorem column_levels {n : ℕ} (hn : n ≤ 12) (Y : Dev nD → FVec Ideal Blk .f32) (q : Fin 256) :
    column (fun c => levels (firstRow c) n (Y c)) q = Network.apply (netLevels n) (column Y q) := by
  induction n with
  | zero => rfl
  | succ n ih =>
    rw [netLevels_succ, Network.apply_append, ← ih (by omega)]
    exact column_downTo hn le_rfl _ q

/-! ## The exchanges -/

/-- The stages of exchange `s` and what follows it. -/
def netEx (s : ℕ) : Network (2 ^ 16) :=
  netStage (exLevel s) (12 + exBit s) ++ if exBit s = 0 then netDown (exLevel s) 12 else []

theorem settle_zero {s : ℕ} (h : exBit s = 0) (g0 : BitVec 32) (x : FVec Ideal Blk .f32) : settle s g0 x = downTo (exLevel s) g0 12 x := by
  unfold settle
  rw [h]
  rfl

theorem settle_other {s : ℕ} (h : exBit s ≠ 0) (g0 : BitVec 32) (x : FVec Ideal Blk .f32) : settle s g0 x = x := by
  unfold settle
  obtain ⟨k, hk⟩ := Nat.exists_eq_succ_of_ne_zero h
  rw [hk]
  rfl

theorem exBit_level : ∀ s, s < 10 → 12 + exBit s < exLevel s := by decide

theorem column_before_succ {s : ℕ} (hs : s < 10) (Y : Dev nD → FVec Ideal Blk .f32) (q : Fin 256) :
    column (before Y (s + 1)) q = Network.apply (netEx s) (column (before Y s) q) := by
  have hl := exBit_level s hs
  unfold netEx
  rw [Network.apply_append, ← column_combine (exBit_lt s) hl]
  by_cases h : exBit s = 0
  · rw [if_pos h, ← column_downTo le_rfl (by omega)]
    congr 1
    funext c
    exact settle_zero h _ _
  · rw [if_neg h, Network.apply_nil]
    congr 1
    funext c
    exact settle_other h _ _

/-! The ten, written out. -/

theorem netEx_0 : netEx 0 = netStage 13 12 ++ netDown 13 12 := rfl
theorem netEx_1 : netEx 1 = netStage 14 13 := List.append_nil _
theorem netEx_2 : netEx 2 = netStage 14 12 ++ netDown 14 12 := rfl
theorem netEx_3 : netEx 3 = netStage 15 14 := List.append_nil _
theorem netEx_4 : netEx 4 = netStage 15 13 := List.append_nil _
theorem netEx_5 : netEx 5 = netStage 15 12 ++ netDown 15 12 := rfl
theorem netEx_6 : netEx 6 = netStage 16 15 := List.append_nil _
theorem netEx_7 : netEx 7 = netStage 16 14 := List.append_nil _
theorem netEx_8 : netEx 8 = netStage 16 13 := List.append_nil _
theorem netEx_9 : netEx 9 = netStage 16 12 ++ netDown 16 12 := rfl

/-- All of a column's stages are the sorting network. -/
theorem column_before (Y : Dev nD → FVec Ideal Blk .f32) (q : Fin 256) :
    column (before Y 10) q = Network.apply (sortNet 16 false) (column Y q) := by
  have h0 : column (before Y 0) q = Network.apply (netLevels 12) (column Y q) := column_levels le_rfl Y q
  rw [column_before_succ (by decide), column_before_succ (by decide), column_before_succ (by decide), column_before_succ (by decide),
    column_before_succ (by decide), column_before_succ (by decide), column_before_succ (by decide), column_before_succ (by decide),
    column_before_succ (by decide), column_before_succ (by decide), h0]
  rw [← netLevels_all, netLevels_succ 15, netLevels_succ 14, netLevels_succ 13, netLevels_succ 12, netDown_succ _ 15, netDown_succ _ 14,
    netDown_succ _ 14, netDown_succ _ 13, netDown_succ _ 13, netDown_succ _ 13, netDown_succ _ 12, netDown_succ _ 12, netDown_succ _ 12,
    netDown_succ _ 12]
  simp only [Network.apply_append, netEx_0, netEx_1, netEx_2, netEx_3, netEx_4, netEx_5, netEx_6, netEx_7, netEx_8, netEx_9]

/-- The column a launch leaves is ascending … -/
theorem column_before_monotone (Y : Dev nD → FVec Ideal Blk .f32) (q : Fin 256) : Monotone (column (before Y 10) q) := by
  rw [column_before]
  exact sortNet_apply_monotone 16 _

/-- … and a rearrangement of the one it found. -/
theorem column_before_perm (Y : Dev nD → FVec Ideal Blk .f32) (q : Fin 256) :
    ∃ σ : Equiv.Perm (Fin (2 ^ 16)), column (before Y 10) q = column Y q ∘ σ := by
  rw [column_before]
  exact Network.exists_perm _ _

end Cert.KernelIdeal

end
-- ==== Proof.Sorted.lean ====
/-
  The reference's sort, column by column: what it leaves is the one ascending rearrangement of the column.
-/
module

public import proofs.«01_k».proof.Proof.Gen.ReferenceIdeal
public import Idealize.ShloMosaic.Lib.SortFacts
public import Idealize.ShloMosaic.Lib.Pointwise
public import Idealize.ShloMosaic.Lib.SortNet.HostSort

@[expose] public section

noncomputable section

namespace Cert.ReferenceIdeal

open Idealize.ShloMosaic
open Idealize.ShloMosaic.Pointwise
open Facts₀ Facts

/-- The comparison jax sorts by is the order itself: it makes all zeros one and all NaNs one, and the ideal values have one zero and no NaN. -/
theorem comparator_eq (l r : Ideal .f32) : comparator_f32_d0 (F := Ideal) l r = BitVec.ofBool (decide ((l : EReal) < r)) := by
  have same : ∀ x : Ideal .f32, Scalar.select (FloatOps.cmpf .une x x) (FloatOps.ofBits .f32 0x7FC00000#32)
      (Scalar.select (FloatOps.cmpf .oeq x (FloatOps.ofBits .f32 0x00000000#32)) (FloatOps.ofBits .f32 0x00000000#32) x) = x := by
    intro x
    have h1 : FloatOps.cmpf .une x x = 0#1 := by
      show BitVec.ofBool (decide ((x : EReal) ≠ x)) = 0#1
      rw [decide_eq_false (by simp)]
      rfl
    rw [h1]
    show Scalar.select (BitVec.ofBool (decide ((x : EReal) = FloatOps.ofBits (F := Ideal) .f32 0x00000000#32))) _ x = x
    by_cases h : (x : EReal) = FloatOps.ofBits (F := Ideal) .f32 0x00000000#32
    · rw [decide_eq_true h]; exact h.symm
    · rw [decide_eq_false h]; rfl
  show FloatOps.cmpfTotal .lt _ _ = _
  rw [same l, same r]
  rfl

/-- An ascending rearrangement of a column is the sorted column. -/
theorem sorted_eq {n : ℕ} (u w : Fin n → EReal) (hw : Monotone w) (σ : Equiv.Perm (Fin n)) (h : w = u ∘ σ) (k : Fin n) :
    u (sortedFrom (fun k k' => decide (u k < u k')) k) = w k := by
  have hmono : Monotone (u ∘ sortedFrom fun k k' => decide (u k < u k')) := by
    intro i j hij
    rcases hij.eq_or_lt with rfl | hlt
    · exact le_rfl
    · have := sortedFrom_noInversion (fun k k' => decide (u k < u k')) (fun k k' => decide (u k < u k'))
        (fun a b hab => decide_eq_false (not_lt.mpr (of_decide_eq_true hab).le)) (fun a b hab => hab)
        (fun a b c hab hbc => decide_eq_false (not_lt.mpr ((not_lt.mp (of_decide_eq_false hbc)).trans (not_lt.mp (of_decide_eq_false hab)))))
        i j hlt
      exact not_lt.mp (of_decide_eq_false this)
  obtain ⟨τ, hτ⟩ : ∃ τ : Equiv.Perm (Fin n), ⇑τ = sortedFrom fun k k' => decide (u k < u k') :=
    ⟨Equiv.ofBijective _ ⟨sortedFrom_injective _, sortedFrom_surjective _⟩, rfl⟩
  rw [← hτ] at hmono ⊢
  subst h
  have hlist : List.ofFn (u ∘ τ) = List.ofFn (u ∘ σ) :=
    List.Perm.eq_of_pairwise (le := (· ≤ ·)) (fun _ _ _ _ => le_antisymm) (List.pairwise_ofFn.mpr fun i j hij => hmono hij.le)
      (List.pairwise_ofFn.mpr fun i j hij => hw hij.le) ((Equiv.Perm.ofFn_comp_perm τ u).trans (Equiv.Perm.ofFn_comp_perm σ u).symm)
  exact congrFun (List.ofFn_injective hlist) k

/-- The reference's result at one entry, from any ascending rearrangement of the entry's column. -/
theorem sort_at (x : FVec Ideal S65536x1024 .f32) (q : Fin 1024) (w : Fin 65536 → EReal) (hw : Monotone w) (σ : Equiv.Perm (Fin 65536))
    (h : w = (fun k => x (ix2 k q)) ∘ σ) (k : Fin 65536) :
    Host.sort S65536x1024 0 (comparator_f32_d0 (F := Ideal)) x (ix2 k q) = w k := by
  rw [← sorted_eq _ w hw σ h k]
  have e : ∀ k' : Fin 65536, (ix2 k q : S65536x1024.Idx).along 0 k' = ix2 k' q := fun k' => by
    funext a
    fin_cases a <;> rfl
  show x ((ix2 k q : S65536x1024.Idx).along 0 (sortedFrom (n := 65536) (fun i j => comparator_f32_d0 (F := Ideal)
    (x ((ix2 k q : S65536x1024.Idx).along 0 i)) (x ((ix2 k q : S65536x1024.Idx).along 0 j)) == 1#1) k)) = _
  rw [e]
  congr 3
  funext i j
  rw [e, e, comparator_eq]
  cases decide (x (ix2 i q) < x (ix2 j q)) <;> rfl

end Cert.ReferenceIdeal

end
-- ==== Proof.Result.lean ====
/-
  What the launch leaves in the result array: each device's rows of the reference's sort of the whole array.
-/
module

public import proofs.«01_k».proof.Proof.Columns
public import proofs.«01_k».proof.Proof.Sorted
public import proofs.«01_k».proof.Proof.Run
public import Idealize.ShloMosaic.Lib.Pipeline.ValueKit

@[expose] public section

noncomputable section

namespace Cert.KernelIdeal

open Idealize.ShloMosaic Idealize.ShloMosaic.TcCoe
open Idealize.ShloMosaic.Pointwise
open Cert.Net
open Facts₀ Facts

/-- The whole array. -/
abbrev Full : Shape := ⟨2, ![65536, 1024]⟩
/-- A device's rows of it. -/
abbrev Shard : Shape := ⟨2, ![4096, 1024]⟩

theorem block_at (x : FVec Ideal Full .f32) (c : Dev nD) (r : Fin 4096) (q : Fin 1024) (k : Fin 65536) (hk : k.val = c.val * 4096 + r.val)
    (h : Layout.Tiles Shard Full 0 16) : Layout.block Shard Full 0 16 c x h (ix2 r q) = x (ix2 k q) := by
  show x (h.idx c (ix2 r q)) = _
  congr 1
  funext a
  apply Fin.ext
  fin_cases a
  · exact hk.symm
  · rfl

variable (m : (ℓ : Loc nD τ sig) → Buf (Elt Ideal) ℓ)

theorem index_in : ∀ t : Fin grid0.N, win0_0.index t 0 = 0 ∧ win0_0.index t 1 = t.val := by decide +kernel
theorem index_out : ∀ t : Fin grid0.N, win0_1.index t 0 = 0 ∧ win0_1.index t 1 = t.val := by decide +kernel

/-- Where the block loaded at point `t` is in the array … -/
theorem emb_in (t : Fin grid0.N) (r : Fin 4096) (q : Fin 256) (q' : Fin 1024) (hq : q'.val = t.val * 256 + q.val) :
    (win0_0.blk t).view.emb (ix2 r q : Blk.Idx) = (ix2 r q' : Shard.Idx) := by
  funext a
  apply Fin.ext
  refine (win0_0.rect_emb_val t (ix2 r q : Blk.Idx) a).trans ?_
  fin_cases a
  · show win0_0.index t 0 * 4096 + r.val = r.val
    rw [(index_in t).1]; omega
  · show win0_0.index t 1 * 256 + q.val = q'.val
    rw [(index_in t).2, hq]

/-- … and where the one left there goes. -/
theorem emb_out (t : Fin grid0.N) (r : Fin 4096) (q : Fin 256) (q' : Fin 1024) (hq : q'.val = t.val * 256 + q.val) :
    (win0_1.blk t).view.emb (ix2 r q : Blk.Idx) = (ix2 r q' : Shard.Idx) := by
  funext a
  apply Fin.ext
  refine (win0_1.rect_emb_val t (ix2 r q : Blk.Idx) a).trans ?_
  fin_cases a
  · show win0_1.index t 0 * 4096 + r.val = r.val
    rw [(index_out t).1]; omega
  · show win0_1.index t 1 * 256 + q.val = q'.val
    rw [(index_out t).2, hq]

/-- An entry of the block a device loads at point `t` is one of columns `256 t` to `256 t + 255` of its rows. -/
theorem blockAt_at (t : Fin grid0.N) (c : Dev nD) (r : Fin 4096) (q : Fin 256) (q' : Fin 1024) (hq : q'.val = t.val * 256 + q.val) :
    blockAt m t.val c (ix2 r q) = m ((c : Thread nD τ).loc main_arg0) (ix2 r q') := by
  unfold blockAt
  rw [pt_val]
  show m ((c : Thread nD τ).loc main_arg0) ((win0_0.blk t).view.emb (ix2 r q : Blk.Idx)) = _
  rw [emb_in t r q q' hq]

/-- A column of what the devices load at point `t` is a column of the whole array. -/
theorem column_blocks (x : FVec Ideal Full .f32) (h : Layout.Tiles Shard Full 0 16)
    (hx : ∀ c : Dev nD, m ((c : Thread nD τ).loc main_arg0) = Layout.block Shard Full 0 16 c x h) (t : Fin grid0.N) (q : Fin 256)
    (q' : Fin 1024) (hq : q'.val = t.val * 256 + q.val) : column (blockAt m t.val) q = fun k : Fin 65536 => x (ix2 k q') := by
  funext k
  show blockAt m t.val (holder k) (ix2 (place₀ k) q) = _
  rw [blockAt_at m t (holder k) (place₀ k) q q' hq, hx]
  exact block_at x _ _ q' k (by rw [Nat.mul_comm]; exact (row_eq k).symm) h

theorem result_eq (x : FVec Ideal Full .f32) (h : Layout.Tiles Shard Full 0 16)
    (hx : ∀ c : Dev nD, m ((c : Thread nD τ).loc main_arg0) = Layout.block Shard Full 0 16 c x h) (c : Dev nD) :
    ends m c 1 = Layout.block Shard Full 0 16 c
      (Host.sort Full 0 (Cert.ReferenceIdeal.comparator_f32_d0 (F := Ideal)) x) h := by
  refine (dats m 0 c).arrAt_eq_of_covers 1 _ (by decide +kernel) fun t hf y => ?_
  blk_simp
  obtain ⟨r, q, rfl⟩ : ∃ (r : Fin 4096) (q : Fin 256), y = (ix2 r q : Blk.Idx) := ⟨y 0, y 1, by funext a; fin_cases a <;> rfl⟩
  have ht : t.val < 4 := Gen.N_0 ▸ t.isLt
  obtain ⟨q', hq⟩ : ∃ q' : Fin 1024, q'.val = t.val * 256 + q.val := ⟨⟨t.val * 256 + q.val, by have := q.isLt; omega⟩, rfl⟩
  obtain ⟨k, hk⟩ : ∃ k : Fin 65536, k.val = c.val * 4096 + r.val :=
    ⟨⟨c.val * 4096 + r.val, by have := r.isLt; have : c.val < 16 := c.isLt; omega⟩, rfl⟩
  have hh : holder k = c := Fin.ext (by show k.val / 4096 = c.val; have := r.isLt; omega)
  have hp : place₀ k = r := Fin.ext (by show k.val % 4096 = r.val; have := r.isLt; omega)
  obtain ⟨σ, hσ⟩ := column_before_perm (blockAt m t.val) q
  rw [column_blocks m x h hx t q q' hq] at hσ
  refine Eq.trans ?_ (congrArg _ (emb_out t r q q' hq).symm)
  rw [block_at _ c r q' k hk h]
  refine Eq.trans ?_ (Cert.ReferenceIdeal.sort_at x q' _ (column_before_monotone (blockAt m t.val) q) σ hσ k).symm
  show before (blockAt m t.val) 10 c (ix2 r q) = before (blockAt m t.val) 10 (holder k) (ix2 (place₀ k) q)
  rw [hh, hp]

end Cert.KernelIdeal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Result
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference leaves its argument unchanged; it has no semaphores. -/
theorem frame_reference : Cert.quiescent_ReferenceIdeal := fun m g _ =>
  (θ_run (Cert.ReferenceIdeal.defs (F := Ideal)) _ _).mono (fun r h => ⟨fun c => (h c).2, sem_eq_zero_of_no_sems rfl _⟩)
    (Cert.ReferenceIdeal.Value.run m g)

/-- Both programs run, and the kernel's devices end holding their rows of the reference's sort. -/
theorem same_sort : Cert.algebraic_KernelIdeal_ReferenceIdeal := fun m g m' g' _ hx =>
  ⟨_, (θ_run (Cert.KernelIdeal.defs (F := Ideal)) _ _).mono
      (fun r h c => ⟨(h.1 c (1 : Fin 2)).trans (Cert.KernelIdeal.result_eq m _ _ hx c),
        (h.1 c (0 : Fin 2)).trans (Cert.KernelIdeal.ends_arg m c)⟩) (Cert.KernelIdeal.run_main m g),
    (θ_run (Cert.ReferenceIdeal.defs (F := Ideal)) _ _).mono (fun r h => h 0) (Cert.ReferenceIdeal.Value.run m' g')⟩

theorem claim : Cert.Claim := ⟨Cert.Kernel.Gen.facts, Cert.KernelIdeal.Gen.facts, Cert.ReferenceIdeal.Gen.facts,
  frame_kernel, frame_idealized, frame_reference, trivial, same_sort⟩

end Cert.Proof

end
